-- ==== Defs.lean ====
def Pre_Kernel [hPre_binary : Cert.Pre_binary.Facts] (m : (ℓ : Loc Cert.Kernel.nD Cert.Kernel.τ Cert.Kernel.sig) → Buf (Elt Bits) ℓ) : Prop :=
  ∀ c : Dev Cert.Kernel.nD,
    (Cert.Pre_binary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_binary : Cert.Pre_binary.Facts] (m : (ℓ : Loc Cert.KernelIdeal.nD Cert.KernelIdeal.τ Cert.KernelIdeal.sig) → Buf (Elt Ideal) ℓ) : Prop :=
  ∀ c : Dev Cert.KernelIdeal.nD,
    (Cert.Pre_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary [hPre_binary : Cert.Pre_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableReferenceIdeal (m : (ℓ : Loc Cert.TableReferenceIdeal.nD Cert.TableReferenceIdeal.τ Cert.TableReferenceIdeal.sig) → Buf (Elt Ideal) ℓ) : Prop :=
  True

def quiescent_Kernel [hKernel : Cert.Kernel.Facts] [hPre_binary : Cert.Pre_binary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_binary [hReferenceIdeal : Cert.ReferenceIdeal.Facts] [hPre_binary : Cert.Pre_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0))
      ∧ r.2.sem = fun _ => 0)

def quiescent_TableReferenceIdeal [hTableReferenceIdeal : Cert.TableReferenceIdeal.Facts] : Prop :=
  ∀ (m : (ℓ : Loc Cert.TableReferenceIdeal.nD Cert.TableReferenceIdeal.τ Cert.TableReferenceIdeal.sig) → Buf (Elt Ideal) ℓ) (g : Dev Cert.TableReferenceIdeal.nD → PrngReg), Pre_TableReferenceIdeal m →
    θ_run (Cert.TableReferenceIdeal.defs (F := Ideal)) (onTc (τ := Cert.TableReferenceIdeal.τ) (Cert.TableReferenceIdeal.main (F := Ideal))) ⟨m, fun _ => 0, g⟩ (fun r => (∀ c : Dev Cert.TableReferenceIdeal.nD,
      r.2.mem ((c.tc : Thread Cert.TableReferenceIdeal.nD Cert.TableReferenceIdeal.τ).loc Cert.TableReferenceIdeal.main_arg0) = m ((c.tc : Thread Cert.TableReferenceIdeal.nD Cert.TableReferenceIdeal.τ).loc Cert.TableReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Table_TableIdeal : Prop :=
  True

def algebraic_TableIdeal_TableReferenceIdeal [hTableIdeal : Cert.TableIdeal.Facts] [hTableReferenceIdeal : Cert.TableReferenceIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableReferenceIdeal.nD Cert.TableReferenceIdeal.τ Cert.TableReferenceIdeal.sig) → Buf (Elt Ideal) ℓ) (g' : Dev Cert.TableReferenceIdeal.nD → PrngReg), Pre_TableIdeal m →
    (∀ c : Dev Cert.TableIdeal.nD,
      m' ((c.tc : Thread Cert.TableReferenceIdeal.nD Cert.TableReferenceIdeal.τ).loc Cert.TableReferenceIdeal.main_arg0) = m ((c.tc : Thread Cert.TableIdeal.nD Cert.TableIdeal.τ).loc Cert.TableIdeal.main_arg0)) →
    ∃ (v0 : (c : Dev Cert.TableIdeal.nD) → Buf (Elt Ideal) ((c.tc : Thread Cert.TableIdeal.nD Cert.TableIdeal.τ).loc Cert.TableIdeal.main_v0)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v0) = v0 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0))
      ∧ θ_run (Cert.TableReferenceIdeal.defs (F := Ideal)) (onTc (τ := Cert.TableReferenceIdeal.τ) (Cert.TableReferenceIdeal.main (F := Ideal))) ⟨m', fun _ => 0, g'⟩ (fun r => ∀ c : Dev Cert.TableReferenceIdeal.nD,
          r.2.mem ((c.tc : Thread Cert.TableReferenceIdeal.nD Cert.TableReferenceIdeal.τ).loc Cert.TableReferenceIdeal.main_v28) = v0 c
          ∧ r.2.mem ((c.tc : Thread Cert.TableReferenceIdeal.nD Cert.TableReferenceIdeal.τ).loc Cert.TableReferenceIdeal.main_arg0) = m' ((c.tc : Thread Cert.TableReferenceIdeal.nD Cert.TableReferenceIdeal.τ).loc Cert.TableReferenceIdeal.main_arg0))

def Claim : Prop :=
  ∃ (hKernel : Cert.Kernel.Facts) (hKernelIdeal : Cert.KernelIdeal.Facts) (hReferenceIdeal : Cert.ReferenceIdeal.Facts) (hTable : Cert.Table.Facts) (hTableIdeal : Cert.TableIdeal.Facts) (hTableReferenceIdeal : Cert.TableReferenceIdeal.Facts) (hPre_binary : Cert.Pre_binary.Facts),
    quiescent_Kernel (hKernel := hKernel) (hPre_binary := hPre_binary)
    ∧ quiescent_KernelIdeal (hKernelIdeal := hKernelIdeal) (hPre_binary := hPre_binary)
    ∧ quiescent_ReferenceIdeal (hReferenceIdeal := hReferenceIdeal)
    ∧ quiescent_ReferenceIdeal_pre_binary (hReferenceIdeal := hReferenceIdeal) (hPre_binary := hPre_binary)
    ∧ quiescent_Table (hTable := hTable)
    ∧ quiescent_TableIdeal (hTableIdeal := hTableIdeal)
    ∧ quiescent_TableReferenceIdeal (hTableReferenceIdeal := hTableReferenceIdeal)
    ∧ preserves_Kernel_KernelIdeal
    ∧ algebraic_KernelIdeal_ReferenceIdeal (hKernelIdeal := hKernelIdeal) (hReferenceIdeal := hReferenceIdeal) (hPre_binary := hPre_binary)
    ∧ preserves_Table_TableIdeal
    ∧ algebraic_TableIdeal_TableReferenceIdeal (hTableIdeal := hTableIdeal) (hTableReferenceIdeal := hTableReferenceIdeal)
-- ==== Pre_binary.lean ====
abbrev S100000x56 : Shape := ⟨2, ![100000, 56]⟩
abbrev S1024x4x16 : Shape := ⟨3, ![1024, 4, 16]⟩
abbrev S_ : Shape := ⟨0, ![]⟩

class Facts : Prop where
  bcast_S_S100000x56 : S_.BroadcastsInDim S100000x56 (![] : Fin 0 → Fin S100000x56.rank)
  reducesTo_S100000x56_S_d0_1 : S100000x56.ReducesTo [0, 1] S_
  h_S_ : 0 < S_.numel

variable [Facts]

def fn {F : FTy → Type} [FloatOps F] (main_arg0 : IVec S100000x56 32) (main_arg1 : IVec S1024x4x16 32) : IVec S_ 1 :=
  let main_c : IVec S_ 32 := constantI S_ 32 0#32
  let main_v0 : IVec S100000x56 32 := broadcastInDim S100000x56 ![] bcast_S_S100000x56 main_c
  let main_v1 : IVec S100000x56 1 := cmpi .sge main_arg0 main_v0
  let main_c_0 : IVec S_ 32 := constantI S_ 32 2#32
  let main_v2 : IVec S100000x56 32 := broadcastInDim S100000x56 ![] bcast_S_S100000x56 main_c_0
  let main_v3 : IVec S100000x56 1 := cmpi .slt main_arg0 main_v2
  let main_v4 : IVec S100000x56 1 := andi main_v1 main_v3
  let main_c_1 : IVec S_ 1 := constantI S_ 1 1#1
  let main_v5 : IVec S_ 1 := (fun x v => Host.reduce IntOp.andi x v reducesTo_S100000x56_S_d0_1 h_S_) main_v4 main_c_1
  main_v5
-- ==== Kernel.lean ====
abbrev S100000x56 : Shape := ⟨2, ![100000, 56]⟩
abbrev S1024x4x16 : Shape := ⟨3, ![1024, 4, 16]⟩
abbrev S5600000 : Shape := ⟨1, ![5600000]⟩
abbrev S65536 : Shape := ⟨1, ![65536]⟩
abbrev S12800000 : Shape := ⟨1, ![12800000]⟩
abbrev S7168 : Shape := ⟨1, ![7168]⟩
abbrev S1024 : Shape := ⟨1, ![1024]⟩
abbrev S16000 : Shape := ⟨1, ![16000]⟩
abbrev S_ : Shape := ⟨0, ![]⟩
abbrev S16 : Shape := ⟨1, ![16]⟩
abbrev S7000 : Shape := ⟨1, ![7000]⟩
abbrev S1 : Shape := ⟨1, ![1]⟩
abbrev S100000x128 : Shape := ⟨2, ![100000, 128]⟩

abbrev nBuf : Table → Nat
  | .hbm => 6
  | .local .scVector .vmem => 4
  | _ => 0

abbrev bufTy : (tb : Table) → Fin (nBuf tb) → BufTy
  | .hbm, ⟨0, _⟩ => ⟨S100000x56, .i32⟩
  | .hbm, ⟨1, _⟩ => ⟨S1024x4x16, .i32⟩
  | .hbm, ⟨2, _⟩ => ⟨S5600000, .i32⟩
  | .hbm, ⟨3, _⟩ => ⟨S65536, .i32⟩
  | .hbm, ⟨4, _⟩ => ⟨S12800000, .f32⟩
  | .hbm, ⟨5, _⟩ => ⟨S100000x128, .f32⟩
  | .local .scVector .vmem, ⟨0, _⟩ => ⟨S7168, .i32⟩
  | .local .scVector .vmem, ⟨1, _⟩ => ⟨S65536, .i32⟩
  | .local .scVector .vmem, ⟨2, _⟩ => ⟨S1024, .i32⟩
  | .local .scVector .vmem, ⟨3, _⟩ => ⟨S16000, .f32⟩
  | _, _ => ⟨S100000x56, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c25_i32 : BitVec 32 := 25#32
  let v8 : BitVec 32 := Scalar.addi c0_i32_0 c25_i32
  let c1_i32 : BitVec 32 := 1#32
  ⟨c0_i32_0, v8, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32_0 : BitVec 32 := 0#32
  let c1_i32 : BitVec 32 := 1#32
  let arg9 : BitVec 32 := Scf.iv c0_i32_0 c1_i32 k0_t1
  let c125_i32 : BitVec 32 := 125#32
  let v9 : BitVec 32 := Scalar.muli arg9 c125_i32
  let v10 : BitVec 32 := Scalar.addi v2 v9
  let c56_i32_2 : BitVec 32 := 56#32
  let v11 : BitVec 32 := Scalar.muli v10 c56_i32_2
  ![v11.toNat]
@[reducible] def k0_t2_loop : Scf.Loop 32 :=
  let c0_i32_4 : BitVec 32 := 0#32
  let c8_i32_5 : BitVec 32 := 8#32
  let v12 : BitVec 32 := Scalar.addi c0_i32_4 c8_i32_5
  let c1_i32_6 : BitVec 32 := 1#32
  ⟨c0_i32_4, v12, c1_i32_6⟩

def k0_chk1 (v399 : IVec S16 32) : Prop :=
  (∀ a x, ((![v399] : Fin 1 → IVec S16 32) a x).toNat < S7168.size a)
theorem k0_idx1_inb : ∀ (v399 : IVec S16 32) (k0_hw1 : k0_chk1 v399), ∀ a x, ((![v399] : Fin 1 → IVec S16 32) a x).toNat < S7168.size a := fun v399 k0_hw1 => k0_hw1

def k0_chk2 (v402 : IVec S16 32) : Prop :=
  (∀ a x, ((![v402] : Fin 1 → IVec S16 32) a x).toNat < S7168.size a)
theorem k0_idx2_inb : ∀ (v402 : IVec S16 32) (k0_hw2 : k0_chk2 v402), ∀ a x, ((![v402] : Fin 1 → IVec S16 32) a x).toNat < S7168.size a := fun v402 k0_hw2 => k0_hw2

def k0_chk3 (v408 : IVec S16 32) : Prop :=
  (∀ a x, ((![v408] : Fin 1 → IVec S16 32) a x).toNat < S7168.size a)
theorem k0_idx3_inb : ∀ (v408 : IVec S16 32) (k0_hw3 : k0_chk3 v408), ∀ a x, ((![v408] : Fin 1 → IVec S16 32) a x).toNat < S7168.size a := fun v408 k0_hw3 => k0_hw3

def k0_chk4 (v414 : IVec S16 32) : Prop :=
  (∀ a x, ((![v414] : Fin 1 → IVec S16 32) a x).toNat < S7168.size a)
theorem k0_idx4_inb : ∀ (v414 : IVec S16 32) (k0_hw4 : k0_chk4 v414), ∀ a x, ((![v414] : Fin 1 → IVec S16 32) a x).toNat < S7168.size a := fun v414 k0_hw4 => k0_hw4

def k0_chk5 (v420 : IVec S16 32) : Prop :=
  (∀ a x, ((![v420] : Fin 1 → IVec S16 32) a x).toNat < S7168.size a)
theorem k0_idx5_inb : ∀ (v420 : IVec S16 32) (k0_hw5 : k0_chk5 v420), ∀ a x, ((![v420] : Fin 1 → IVec S16 32) a x).toNat < S7168.size a := fun v420 k0_hw5 => k0_hw5

def k0_chk6 (v426 : IVec S16 32) : Prop :=
  (∀ a x, ((![v426] : Fin 1 → IVec S16 32) a x).toNat < S7168.size a)
theorem k0_idx6_inb : ∀ (v426 : IVec S16 32) (k0_hw6 : k0_chk6 v426), ∀ a x, ((![v426] : Fin 1 → IVec S16 32) a x).toNat < S7168.size a := fun v426 k0_hw6 => k0_hw6

def k0_chk7 (v432 : IVec S16 32) : Prop :=
  (∀ a x, ((![v432] : Fin 1 → IVec S16 32) a x).toNat < S7168.size a)
theorem k0_idx7_inb : ∀ (v432 : IVec S16 32) (k0_hw7 : k0_chk7 v432), ∀ a x, ((![v432] : Fin 1 → IVec S16 32) a x).toNat < S7168.size a := fun v432 k0_hw7 => k0_hw7

def k0_chk8 (v438 : IVec S16 32) : Prop :=
  (∀ a x, ((![v438] : Fin 1 → IVec S16 32) a x).toNat < S1024.size a)
theorem k0_idx8_inb : ∀ (v438 : IVec S16 32) (k0_hw8 : k0_chk8 v438), ∀ a x, ((![v438] : Fin 1 → IVec S16 32) a x).toNat < S1024.size a := fun v438 k0_hw8 => k0_hw8

def k0_chk9 (v442 : IVec S16 32) : Prop :=
  (∀ a x, ((![v442] : Fin 1 → IVec S16 32) a x).toNat < S7168.size a)
theorem k0_idx9_inb : ∀ (v442 : IVec S16 32) (k0_hw9 : k0_chk9 v442), ∀ a x, ((![v442] : Fin 1 → IVec S16 32) a x).toNat < S7168.size a := fun v442 k0_hw9 => k0_hw9

def k0_chk10 (v445 : IVec S16 32) : Prop :=
  (∀ a x, ((![v445] : Fin 1 → IVec S16 32) a x).toNat < S7168.size a)
theorem k0_idx10_inb : ∀ (v445 : IVec S16 32) (k0_hw10 : k0_chk10 v445), ∀ a x, ((![v445] : Fin 1 → IVec S16 32) a x).toNat < S7168.size a := fun v445 k0_hw10 => k0_hw10

def k0_chk11 (v451 : IVec S16 32) : Prop :=
  (∀ a x, ((![v451] : Fin 1 → IVec S16 32) a x).toNat < S7168.size a)
theorem k0_idx11_inb : ∀ (v451 : IVec S16 32) (k0_hw11 : k0_chk11 v451), ∀ a x, ((![v451] : Fin 1 → IVec S16 32) a x).toNat < S7168.size a := fun v451 k0_hw11 => k0_hw11

def k0_chk12 (v457 : IVec S16 32) : Prop :=
  (∀ a x, ((![v457] : Fin 1 → IVec S16 32) a x).toNat < S7168.size a)
theorem k0_idx12_inb : ∀ (v457 : IVec S16 32) (k0_hw12 : k0_chk12 v457), ∀ a x, ((![v457] : Fin 1 → IVec S16 32) a x).toNat < S7168.size a := fun v457 k0_hw12 => k0_hw12

def k0_chk13 (v463 : IVec S16 32) : Prop :=
  (∀ a x, ((![v463] : Fin 1 → IVec S16 32) a x).toNat < S7168.size a)
theorem k0_idx13_inb : ∀ (v463 : IVec S16 32) (k0_hw13 : k0_chk13 v463), ∀ a x, ((![v463] : Fin 1 → IVec S16 32) a x).toNat < S7168.size a := fun v463 k0_hw13 => k0_hw13

def k0_chk14 (v469 : IVec S16 32) : Prop :=
  (∀ a x, ((![v469] : Fin 1 → IVec S16 32) a x).toNat < S7168.size a)
theorem k0_idx14_inb : ∀ (v469 : IVec S16 32) (k0_hw14 : k0_chk14 v469), ∀ a x, ((![v469] : Fin 1 → IVec S16 32) a x).toNat < S7168.size a := fun v469 k0_hw14 => k0_hw14

def k0_chk15 (v475 : IVec S16 32) : Prop :=
  (∀ a x, ((![v475] : Fin 1 → IVec S16 32) a x).toNat < S7168.size a)
theorem k0_idx15_inb : ∀ (v475 : IVec S16 32) (k0_hw15 : k0_chk15 v475), ∀ a x, ((![v475] : Fin 1 → IVec S16 32) a x).toNat < S7168.size a := fun v475 k0_hw15 => k0_hw15

def k0_chk16 (v481 : IVec S16 32) : Prop :=
  (∀ a x, ((![v481] : Fin 1 → IVec S16 32) a x).toNat < S1024.size a)
theorem k0_idx16_inb : ∀ (v481 : IVec S16 32) (k0_hw16 : k0_chk16 v481), ∀ a x, ((![v481] : Fin 1 → IVec S16 32) a x).toNat < S1024.size a := fun v481 k0_hw16 => k0_hw16

def k0_chk17 (v485 : IVec S16 32) : Prop :=
  (∀ a x, ((![v485] : Fin 1 → IVec S16 32) a x).toNat < S7168.size a)
theorem k0_idx17_inb : ∀ (v485 : IVec S16 32) (k0_hw17 : k0_chk17 v485), ∀ a x, ((![v485] : Fin 1 → IVec S16 32) a x).toNat < S7168.size a := fun v485 k0_hw17 => k0_hw17

def k0_chk18 (v488 : IVec S16 32) : Prop :=
  (∀ a x, ((![v488] : Fin 1 → IVec S16 32) a x).toNat < S7168.size a)
theorem k0_idx18_inb : ∀ (v488 : IVec S16 32) (k0_hw18 : k0_chk18 v488), ∀ a x, ((![v488] : Fin 1 → IVec S16 32) a x).toNat < S7168.size a := fun v488 k0_hw18 => k0_hw18

def k0_chk19 (v494 : IVec S16 32) : Prop :=
  (∀ a x, ((![v494] : Fin 1 → IVec S16 32) a x).toNat < S7168.size a)
theorem k0_idx19_inb : ∀ (v494 : IVec S16 32) (k0_hw19 : k0_chk19 v494), ∀ a x, ((![v494] : Fin 1 → IVec S16 32) a x).toNat < S7168.size a := fun v494 k0_hw19 => k0_hw19

def k0_chk20 (v500 : IVec S16 32) : Prop :=
  (∀ a x, ((![v500] : Fin 1 → IVec S16 32) a x).toNat < S7168.size a)
theorem k0_idx20_inb : ∀ (v500 : IVec S16 32) (k0_hw20 : k0_chk20 v500), ∀ a x, ((![v500] : Fin 1 → IVec S16 32) a x).toNat < S7168.size a := fun v500 k0_hw20 => k0_hw20

def k0_chk21 (v506 : IVec S16 32) : Prop :=
  (∀ a x, ((![v506] : Fin 1 → IVec S16 32) a x).toNat < S7168.size a)
theorem k0_idx21_inb : ∀ (v506 : IVec S16 32) (k0_hw21 : k0_chk21 v506), ∀ a x, ((![v506] : Fin 1 → IVec S16 32) a x).toNat < S7168.size a := fun v506 k0_hw21 => k0_hw21

def k0_chk22 (v512 : IVec S16 32) : Prop :=
  (∀ a x, ((![v512] : Fin 1 → IVec S16 32) a x).toNat < S7168.size a)
theorem k0_idx22_inb : ∀ (v512 : IVec S16 32) (k0_hw22 : k0_chk22 v512), ∀ a x, ((![v512] : Fin 1 → IVec S16 32) a x).toNat < S7168.size a := fun v512 k0_hw22 => k0_hw22

def k0_chk23 (v518 : IVec S16 32) : Prop :=
  (∀ a x, ((![v518] : Fin 1 → IVec S16 32) a x).toNat < S7168.size a)
theorem k0_idx23_inb : ∀ (v518 : IVec S16 32) (k0_hw23 : k0_chk23 v518), ∀ a x, ((![v518] : Fin 1 → IVec S16 32) a x).toNat < S7168.size a := fun v518 k0_hw23 => k0_hw23

def k0_chk24 (v524 : IVec S16 32) : Prop :=
  (∀ a x, ((![v524] : Fin 1 → IVec S16 32) a x).toNat < S1024.size a)
theorem k0_idx24_inb : ∀ (v524 : IVec S16 32) (k0_hw24 : k0_chk24 v524), ∀ a x, ((![v524] : Fin 1 → IVec S16 32) a x).toNat < S1024.size a := fun v524 k0_hw24 => k0_hw24

def k0_chk25 (v528 : IVec S16 32) : Prop :=
  (∀ a x, ((![v528] : Fin 1 → IVec S16 32) a x).toNat < S7168.size a)
theorem k0_idx25_inb : ∀ (v528 : IVec S16 32) (k0_hw25 : k0_chk25 v528), ∀ a x, ((![v528] : Fin 1 → IVec S16 32) a x).toNat < S7168.size a := fun v528 k0_hw25 => k0_hw25

def k0_chk26 (v531 : IVec S16 32) : Prop :=
  (∀ a x, ((![v531] : Fin 1 → IVec S16 32) a x).toNat < S7168.size a)
theorem k0_idx26_inb : ∀ (v531 : IVec S16 32) (k0_hw26 : k0_chk26 v531), ∀ a x, ((![v531] : Fin 1 → IVec S16 32) a x).toNat < S7168.size a := fun v531 k0_hw26 => k0_hw26

def k0_chk27 (v537 : IVec S16 32) : Prop :=
  (∀ a x, ((![v537] : Fin 1 → IVec S16 32) a x).toNat < S7168.size a)
theorem k0_idx27_inb : ∀ (v537 : IVec S16 32) (k0_hw27 : k0_chk27 v537), ∀ a x, ((![v537] : Fin 1 → IVec S16 32) a x).toNat < S7168.size a := fun v537 k0_hw27 => k0_hw27

def k0_chk28 (v543 : IVec S16 32) : Prop :=
  (∀ a x, ((![v543] : Fin 1 → IVec S16 32) a x).toNat < S7168.size a)
theorem k0_idx28_inb : ∀ (v543 : IVec S16 32) (k0_hw28 : k0_chk28 v543), ∀ a x, ((![v543] : Fin 1 → IVec S16 32) a x).toNat < S7168.size a := fun v543 k0_hw28 => k0_hw28

def k0_chk29 (v549 : IVec S16 32) : Prop :=
  (∀ a x, ((![v549] : Fin 1 → IVec S16 32) a x).toNat < S7168.size a)
theorem k0_idx29_inb : ∀ (v549 : IVec S16 32) (k0_hw29 : k0_chk29 v549), ∀ a x, ((![v549] : Fin 1 → IVec S16 32) a x).toNat < S7168.size a := fun v549 k0_hw29 => k0_hw29

def k0_chk30 (v555 : IVec S16 32) : Prop :=
  (∀ a x, ((![v555] : Fin 1 → IVec S16 32) a x).toNat < S7168.size a)
theorem k0_idx30_inb : ∀ (v555 : IVec S16 32) (k0_hw30 : k0_chk30 v555), ∀ a x, ((![v555] : Fin 1 → IVec S16 32) a x).toNat < S7168.size a := fun v555 k0_hw30 => k0_hw30

def k0_chk31 (v561 : IVec S16 32) : Prop :=
  (∀ a x, ((![v561] : Fin 1 → IVec S16 32) a x).toNat < S7168.size a)
theorem k0_idx31_inb : ∀ (v561 : IVec S16 32) (k0_hw31 : k0_chk31 v561), ∀ a x, ((![v561] : Fin 1 → IVec S16 32) a x).toNat < S7168.size a := fun v561 k0_hw31 => k0_hw31

def k0_chk32 (v567 : IVec S16 32) : Prop :=
  (∀ a x, ((![v567] : Fin 1 → IVec S16 32) a x).toNat < S1024.size a)
theorem k0_idx32_inb : ∀ (v567 : IVec S16 32) (k0_hw32 : k0_chk32 v567), ∀ a x, ((![v567] : Fin 1 → IVec S16 32) a x).toNat < S1024.size a := fun v567 k0_hw32 => k0_hw32

def k0_chk33 (v571 : IVec S16 32) : Prop :=
  (∀ a x, ((![v571] : Fin 1 → IVec S16 32) a x).toNat < S7168.size a)
theorem k0_idx33_inb : ∀ (v571 : IVec S16 32) (k0_hw33 : k0_chk33 v571), ∀ a x, ((![v571] : Fin 1 → IVec S16 32) a x).toNat < S7168.size a := fun v571 k0_hw33 => k0_hw33

def k0_chk34 (v574 : IVec S16 32) : Prop :=
  (∀ a x, ((![v574] : Fin 1 → IVec S16 32) a x).toNat < S7168.size a)
theorem k0_idx34_inb : ∀ (v574 : IVec S16 32) (k0_hw34 : k0_chk34 v574), ∀ a x, ((![v574] : Fin 1 → IVec S16 32) a x).toNat < S7168.size a := fun v574 k0_hw34 => k0_hw34

def k0_chk35 (v580 : IVec S16 32) : Prop :=
  (∀ a x, ((![v580] : Fin 1 → IVec S16 32) a x).toNat < S7168.size a)
theorem k0_idx35_inb : ∀ (v580 : IVec S16 32) (k0_hw35 : k0_chk35 v580), ∀ a x, ((![v580] : Fin 1 → IVec S16 32) a x).toNat < S7168.size a := fun v580 k0_hw35 => k0_hw35

def k0_chk36 (v586 : IVec S16 32) : Prop :=
  (∀ a x, ((![v586] : Fin 1 → IVec S16 32) a x).toNat < S7168.size a)
theorem k0_idx36_inb : ∀ (v586 : IVec S16 32) (k0_hw36 : k0_chk36 v586), ∀ a x, ((![v586] : Fin 1 → IVec S16 32) a x).toNat < S7168.size a := fun v586 k0_hw36 => k0_hw36

def k0_chk37 (v592 : IVec S16 32) : Prop :=
  (∀ a x, ((![v592] : Fin 1 → IVec S16 32) a x).toNat < S7168.size a)
theorem k0_idx37_inb : ∀ (v592 : IVec S16 32) (k0_hw37 : k0_chk37 v592), ∀ a x, ((![v592] : Fin 1 → IVec S16 32) a x).toNat < S7168.size a := fun v592 k0_hw37 => k0_hw37

def k0_chk38 (v598 : IVec S16 32) : Prop :=
  (∀ a x, ((![v598] : Fin 1 → IVec S16 32) a x).toNat < S7168.size a)
theorem k0_idx38_inb : ∀ (v598 : IVec S16 32) (k0_hw38 : k0_chk38 v598), ∀ a x, ((![v598] : Fin 1 → IVec S16 32) a x).toNat < S7168.size a := fun v598 k0_hw38 => k0_hw38

def k0_chk39 (v604 : IVec S16 32) : Prop :=
  (∀ a x, ((![v604] : Fin 1 → IVec S16 32) a x).toNat < S7168.size a)
theorem k0_idx39_inb : ∀ (v604 : IVec S16 32) (k0_hw39 : k0_chk39 v604), ∀ a x, ((![v604] : Fin 1 → IVec S16 32) a x).toNat < S7168.size a := fun v604 k0_hw39 => k0_hw39

def k0_chk40 (v610 : IVec S16 32) : Prop :=
  (∀ a x, ((![v610] : Fin 1 → IVec S16 32) a x).toNat < S1024.size a)
theorem k0_idx40_inb : ∀ (v610 : IVec S16 32) (k0_hw40 : k0_chk40 v610), ∀ a x, ((![v610] : Fin 1 → IVec S16 32) a x).toNat < S1024.size a := fun v610 k0_hw40 => k0_hw40

def k0_chk41 (v614 : IVec S16 32) : Prop :=
  (∀ a x, ((![v614] : Fin 1 → IVec S16 32) a x).toNat < S7168.size a)
theorem k0_idx41_inb : ∀ (v614 : IVec S16 32) (k0_hw41 : k0_chk41 v614), ∀ a x, ((![v614] : Fin 1 → IVec S16 32) a x).toNat < S7168.size a := fun v614 k0_hw41 => k0_hw41

def k0_chk42 (v617 : IVec S16 32) : Prop :=
  (∀ a x, ((![v617] : Fin 1 → IVec S16 32) a x).toNat < S7168.size a)
theorem k0_idx42_inb : ∀ (v617 : IVec S16 32) (k0_hw42 : k0_chk42 v617), ∀ a x, ((![v617] : Fin 1 → IVec S16 32) a x).toNat < S7168.size a := fun v617 k0_hw42 => k0_hw42

def k0_chk43 (v623 : IVec S16 32) : Prop :=
  (∀ a x, ((![v623] : Fin 1 → IVec S16 32) a x).toNat < S7168.size a)
theorem k0_idx43_inb : ∀ (v623 : IVec S16 32) (k0_hw43 : k0_chk43 v623), ∀ a x, ((![v623] : Fin 1 → IVec S16 32) a x).toNat < S7168.size a := fun v623 k0_hw43 => k0_hw43

def k0_chk44 (v629 : IVec S16 32) : Prop :=
  (∀ a x, ((![v629] : Fin 1 → IVec S16 32) a x).toNat < S7168.size a)
theorem k0_idx44_inb : ∀ (v629 : IVec S16 32) (k0_hw44 : k0_chk44 v629), ∀ a x, ((![v629] : Fin 1 → IVec S16 32) a x).toNat < S7168.size a := fun v629 k0_hw44 => k0_hw44

def k0_chk45 (v635 : IVec S16 32) : Prop :=
  (∀ a x, ((![v635] : Fin 1 → IVec S16 32) a x).toNat < S7168.size a)
theorem k0_idx45_inb : ∀ (v635 : IVec S16 32) (k0_hw45 : k0_chk45 v635), ∀ a x, ((![v635] : Fin 1 → IVec S16 32) a x).toNat < S7168.size a := fun v635 k0_hw45 => k0_hw45

def k0_chk46 (v641 : IVec S16 32) : Prop :=
  (∀ a x, ((![v641] : Fin 1 → IVec S16 32) a x).toNat < S7168.size a)
theorem k0_idx46_inb : ∀ (v641 : IVec S16 32) (k0_hw46 : k0_chk46 v641), ∀ a x, ((![v641] : Fin 1 → IVec S16 32) a x).toNat < S7168.size a := fun v641 k0_hw46 => k0_hw46

def k0_chk47 (v647 : IVec S16 32) : Prop :=
  (∀ a x, ((![v647] : Fin 1 → IVec S16 32) a x).toNat < S7168.size a)
theorem k0_idx47_inb : ∀ (v647 : IVec S16 32) (k0_hw47 : k0_chk47 v647), ∀ a x, ((![v647] : Fin 1 → IVec S16 32) a x).toNat < S7168.size a := fun v647 k0_hw47 => k0_hw47

def k0_chk48 (v653 : IVec S16 32) : Prop :=
  (∀ a x, ((![v653] : Fin 1 → IVec S16 32) a x).toNat < S1024.size a)
theorem k0_idx48_inb : ∀ (v653 : IVec S16 32) (k0_hw48 : k0_chk48 v653), ∀ a x, ((![v653] : Fin 1 → IVec S16 32) a x).toNat < S1024.size a := fun v653 k0_hw48 => k0_hw48

def k0_chk49 (v657 : IVec S16 32) : Prop :=
  (∀ a x, ((![v657] : Fin 1 → IVec S16 32) a x).toNat < S7168.size a)
theorem k0_idx49_inb : ∀ (v657 : IVec S16 32) (k0_hw49 : k0_chk49 v657), ∀ a x, ((![v657] : Fin 1 → IVec S16 32) a x).toNat < S7168.size a := fun v657 k0_hw49 => k0_hw49

def k0_chk50 (v660 : IVec S16 32) : Prop :=
  (∀ a x, ((![v660] : Fin 1 → IVec S16 32) a x).toNat < S7168.size a)
theorem k0_idx50_inb : ∀ (v660 : IVec S16 32) (k0_hw50 : k0_chk50 v660), ∀ a x, ((![v660] : Fin 1 → IVec S16 32) a x).toNat < S7168.size a := fun v660 k0_hw50 => k0_hw50

def k0_chk51 (v666 : IVec S16 32) : Prop :=
  (∀ a x, ((![v666] : Fin 1 → IVec S16 32) a x).toNat < S7168.size a)
theorem k0_idx51_inb : ∀ (v666 : IVec S16 32) (k0_hw51 : k0_chk51 v666), ∀ a x, ((![v666] : Fin 1 → IVec S16 32) a x).toNat < S7168.size a := fun v666 k0_hw51 => k0_hw51

def k0_chk52 (v672 : IVec S16 32) : Prop :=
  (∀ a x, ((![v672] : Fin 1 → IVec S16 32) a x).toNat < S7168.size a)
theorem k0_idx52_inb : ∀ (v672 : IVec S16 32) (k0_hw52 : k0_chk52 v672), ∀ a x, ((![v672] : Fin 1 → IVec S16 32) a x).toNat < S7168.size a := fun v672 k0_hw52 => k0_hw52

def k0_chk53 (v678 : IVec S16 32) : Prop :=
  (∀ a x, ((![v678] : Fin 1 → IVec S16 32) a x).toNat < S7168.size a)
theorem k0_idx53_inb : ∀ (v678 : IVec S16 32) (k0_hw53 : k0_chk53 v678), ∀ a x, ((![v678] : Fin 1 → IVec S16 32) a x).toNat < S7168.size a := fun v678 k0_hw53 => k0_hw53

def k0_chk54 (v684 : IVec S16 32) : Prop :=
  (∀ a x, ((![v684] : Fin 1 → IVec S16 32) a x).toNat < S7168.size a)
theorem k0_idx54_inb : ∀ (v684 : IVec S16 32) (k0_hw54 : k0_chk54 v684), ∀ a x, ((![v684] : Fin 1 → IVec S16 32) a x).toNat < S7168.size a := fun v684 k0_hw54 => k0_hw54

def k0_chk55 (v690 : IVec S16 32) : Prop :=
  (∀ a x, ((![v690] : Fin 1 → IVec S16 32) a x).toNat < S7168.size a)
theorem k0_idx55_inb : ∀ (v690 : IVec S16 32) (k0_hw55 : k0_chk55 v690), ∀ a x, ((![v690] : Fin 1 → IVec S16 32) a x).toNat < S7168.size a := fun v690 k0_hw55 => k0_hw55

def k0_chk56 (v696 : IVec S16 32) : Prop :=
  (∀ a x, ((![v696] : Fin 1 → IVec S16 32) a x).toNat < S1024.size a)
theorem k0_idx56_inb : ∀ (v696 : IVec S16 32) (k0_hw56 : k0_chk56 v696), ∀ a x, ((![v696] : Fin 1 → IVec S16 32) a x).toNat < S1024.size a := fun v696 k0_hw56 => k0_hw56

def k0_chk57 (v700 : IVec S16 32) : Prop :=
  (∀ a x, ((![v700] : Fin 1 → IVec S16 32) a x).toNat < S7168.size a)
theorem k0_idx57_inb : ∀ (v700 : IVec S16 32) (k0_hw57 : k0_chk57 v700), ∀ a x, ((![v700] : Fin 1 → IVec S16 32) a x).toNat < S7168.size a := fun v700 k0_hw57 => k0_hw57

def k0_chk58 (v703 : IVec S16 32) : Prop :=
  (∀ a x, ((![v703] : Fin 1 → IVec S16 32) a x).toNat < S7168.size a)
theorem k0_idx58_inb : ∀ (v703 : IVec S16 32) (k0_hw58 : k0_chk58 v703), ∀ a x, ((![v703] : Fin 1 → IVec S16 32) a x).toNat < S7168.size a := fun v703 k0_hw58 => k0_hw58

def k0_chk59 (v709 : IVec S16 32) : Prop :=
  (∀ a x, ((![v709] : Fin 1 → IVec S16 32) a x).toNat < S7168.size a)
theorem k0_idx59_inb : ∀ (v709 : IVec S16 32) (k0_hw59 : k0_chk59 v709), ∀ a x, ((![v709] : Fin 1 → IVec S16 32) a x).toNat < S7168.size a := fun v709 k0_hw59 => k0_hw59

def k0_chk60 (v715 : IVec S16 32) : Prop :=
  (∀ a x, ((![v715] : Fin 1 → IVec S16 32) a x).toNat < S7168.size a)
theorem k0_idx60_inb : ∀ (v715 : IVec S16 32) (k0_hw60 : k0_chk60 v715), ∀ a x, ((![v715] : Fin 1 → IVec S16 32) a x).toNat < S7168.size a := fun v715 k0_hw60 => k0_hw60

def k0_chk61 (v721 : IVec S16 32) : Prop :=
  (∀ a x, ((![v721] : Fin 1 → IVec S16 32) a x).toNat < S7168.size a)
theorem k0_idx61_inb : ∀ (v721 : IVec S16 32) (k0_hw61 : k0_chk61 v721), ∀ a x, ((![v721] : Fin 1 → IVec S16 32) a x).toNat < S7168.size a := fun v721 k0_hw61 => k0_hw61

def k0_chk62 (v727 : IVec S16 32) : Prop :=
  (∀ a x, ((![v727] : Fin 1 → IVec S16 32) a x).toNat < S7168.size a)
theorem k0_idx62_inb : ∀ (v727 : IVec S16 32) (k0_hw62 : k0_chk62 v727), ∀ a x, ((![v727] : Fin 1 → IVec S16 32) a x).toNat < S7168.size a := fun v727 k0_hw62 => k0_hw62

def k0_chk63 (v733 : IVec S16 32) : Prop :=
  (∀ a x, ((![v733] : Fin 1 → IVec S16 32) a x).toNat < S7168.size a)
theorem k0_idx63_inb : ∀ (v733 : IVec S16 32) (k0_hw63 : k0_chk63 v733), ∀ a x, ((![v733] : Fin 1 → IVec S16 32) a x).toNat < S7168.size a := fun v733 k0_hw63 => k0_hw63

def k0_chk64 (v739 : IVec S16 32) : Prop :=
  (∀ a x, ((![v739] : Fin 1 → IVec S16 32) a x).toNat < S1024.size a)
theorem k0_idx64_inb : ∀ (v739 : IVec S16 32) (k0_hw64 : k0_chk64 v739), ∀ a x, ((![v739] : Fin 1 → IVec S16 32) a x).toNat < S1024.size a := fun v739 k0_hw64 => k0_hw64
@[reducible] def k0_t3_loop : Scf.Loop 32 :=
  let c0_i32_9 : BitVec 32 := 0#32
  let c62_i32 : BitVec 32 := 62#32
  let v13 : BitVec 32 := Scalar.addi c0_i32_9 c62_i32
  let c1_i32_10 : BitVec 32 := 1#32
  ⟨c0_i32_9, v13, c1_i32_10⟩
def k0_off2 (k0_t3 : Fin k0_t3_loop.trips) : Fin 1 → Nat :=
  let c0_i32_9 : BitVec 32 := 0#32
  let c1_i32_10 : BitVec 32 := 1#32
  let arg10 : BitVec 32 := Scf.iv c0_i32_9 c1_i32_10 k0_t3
  let c16_i32_80 : BitVec 32 := 16#32
  let v392 : BitVec 32 := Scalar.muli arg10 c16_i32_80
  let v393 : Index := Scalar.indexCast v392
  ![v393.toNat]
def k0_off3 (v397 : BitVec 32) (c0_i32_83 : BitVec 32) : Fin 1 → Nat :=
  let c64_i32_82 : BitVec 32 := 64#32
  let v398 : BitVec 32 := Scalar.muli v397 c64_i32_82
  let v399 : BitVec 32 := Scalar.addi v398 c0_i32_83
  let v400 : Index := Scalar.indexCast v399
  ![v400.toNat]

def k0_chk65 (v397 : BitVec 32) : Prop :=
  (∀ (r : Fin 4), ∀ a, (k0_off3 v397 (BitVec.ofNat 32 (16 * r.val))) a + S16.size a ≤ S65536.size a)
theorem k0_off3_inb : ∀ (v397 : BitVec 32) (k0_hw65 : k0_chk65 v397), ∀ (r : Fin 4), ∀ a, (k0_off3 v397 (BitVec.ofNat 32 (16 * r.val))) a + S16.size a ≤ S65536.size a := fun v397 k0_hw65 r => k0_hw65 r

def k0_off4 (v436 : BitVec 32) (c0_i32_92 : BitVec 32) : Fin 1 → Nat :=
  let c64_i32_91 : BitVec 32 := 64#32
  let v437 : BitVec 32 := Scalar.muli v436 c64_i32_91
  let v438 : BitVec 32 := Scalar.addi v437 c0_i32_92
  let v439 : Index := Scalar.indexCast v438
  ![v439.toNat]

def k0_chk66 (v436 : BitVec 32) : Prop :=
  (∀ (r : Fin 4), ∀ a, (k0_off4 v436 (BitVec.ofNat 32 (16 * r.val))) a + S16.size a ≤ S65536.size a)
theorem k0_off4_inb : ∀ (v436 : BitVec 32) (k0_hw66 : k0_chk66 v436), ∀ (r : Fin 4), ∀ a, (k0_off4 v436 (BitVec.ofNat 32 (16 * r.val))) a + S16.size a ≤ S65536.size a := fun v436 k0_hw66 r => k0_hw66 r

def k0_off5 (v483 : BitVec 32) (c0_i32_101 : BitVec 32) : Fin 1 → Nat :=
  let c64_i32_100 : BitVec 32 := 64#32
  let v484 : BitVec 32 := Scalar.muli v483 c64_i32_100
  let v485 : BitVec 32 := Scalar.addi v484 c0_i32_101
  let v486 : Index := Scalar.indexCast v485
  ![v486.toNat]

def k0_chk67 (v483 : BitVec 32) : Prop :=
  (∀ (r : Fin 4), ∀ a, (k0_off5 v483 (BitVec.ofNat 32 (16 * r.val))) a + S16.size a ≤ S65536.size a)
theorem k0_off5_inb : ∀ (v483 : BitVec 32) (k0_hw67 : k0_chk67 v483), ∀ (r : Fin 4), ∀ a, (k0_off5 v483 (BitVec.ofNat 32 (16 * r.val))) a + S16.size a ≤ S65536.size a := fun v483 k0_hw67 r => k0_hw67 r

def k0_off6 (v530 : BitVec 32) (c0_i32_110 : BitVec 32) : Fin 1 → Nat :=
  let c64_i32_109 : BitVec 32 := 64#32
  let v531 : BitVec 32 := Scalar.muli v530 c64_i32_109
  let v532 : BitVec 32 := Scalar.addi v531 c0_i32_110
  let v533 : Index := Scalar.indexCast v532
  ![v533.toNat]

def k0_chk68 (v530 : BitVec 32) : Prop :=
  (∀ (r : Fin 4), ∀ a, (k0_off6 v530 (BitVec.ofNat 32 (16 * r.val))) a + S16.size a ≤ S65536.size a)
theorem k0_off6_inb : ∀ (v530 : BitVec 32) (k0_hw68 : k0_chk68 v530), ∀ (r : Fin 4), ∀ a, (k0_off6 v530 (BitVec.ofNat 32 (16 * r.val))) a + S16.size a ≤ S65536.size a := fun v530 k0_hw68 r => k0_hw68 r

def k0_off7 (v577 : BitVec 32) (c0_i32_119 : BitVec 32) : Fin 1 → Nat :=
  let c64_i32_118 : BitVec 32 := 64#32
  let v578 : BitVec 32 := Scalar.muli v577 c64_i32_118
  let v579 : BitVec 32 := Scalar.addi v578 c0_i32_119
  let v580 : Index := Scalar.indexCast v579
  ![v580.toNat]

def k0_chk69 (v577 : BitVec 32) : Prop :=
  (∀ (r : Fin 4), ∀ a, (k0_off7 v577 (BitVec.ofNat 32 (16 * r.val))) a + S16.size a ≤ S65536.size a)
theorem k0_off7_inb : ∀ (v577 : BitVec 32) (k0_hw69 : k0_chk69 v577), ∀ (r : Fin 4), ∀ a, (k0_off7 v577 (BitVec.ofNat 32 (16 * r.val))) a + S16.size a ≤ S65536.size a := fun v577 k0_hw69 r => k0_hw69 r

def k0_off8 (v624 : BitVec 32) (c0_i32_128 : BitVec 32) : Fin 1 → Nat :=
  let c64_i32_127 : BitVec 32 := 64#32
  let v625 : BitVec 32 := Scalar.muli v624 c64_i32_127
  let v626 : BitVec 32 := Scalar.addi v625 c0_i32_128
  let v627 : Index := Scalar.indexCast v626
  ![v627.toNat]

def k0_chk70 (v624 : BitVec 32) : Prop :=
  (∀ (r : Fin 4), ∀ a, (k0_off8 v624 (BitVec.ofNat 32 (16 * r.val))) a + S16.size a ≤ S65536.size a)
theorem k0_off8_inb : ∀ (v624 : BitVec 32) (k0_hw70 : k0_chk70 v624), ∀ (r : Fin 4), ∀ a, (k0_off8 v624 (BitVec.ofNat 32 (16 * r.val))) a + S16.size a ≤ S65536.size a := fun v624 k0_hw70 r => k0_hw70 r

def k0_off9 (v671 : BitVec 32) (c0_i32_137 : BitVec 32) : Fin 1 → Nat :=
  let c64_i32_136 : BitVec 32 := 64#32
  let v672 : BitVec 32 := Scalar.muli v671 c64_i32_136
  let v673 : BitVec 32 := Scalar.addi v672 c0_i32_137
  let v674 : Index := Scalar.indexCast v673
  ![v674.toNat]

def k0_chk71 (v671 : BitVec 32) : Prop :=
  (∀ (r : Fin 4), ∀ a, (k0_off9 v671 (BitVec.ofNat 32 (16 * r.val))) a + S16.size a ≤ S65536.size a)
theorem k0_off9_inb : ∀ (v671 : BitVec 32) (k0_hw71 : k0_chk71 v671), ∀ (r : Fin 4), ∀ a, (k0_off9 v671 (BitVec.ofNat 32 (16 * r.val))) a + S16.size a ≤ S65536.size a := fun v671 k0_hw71 r => k0_hw71 r

def k0_off10 (v718 : BitVec 32) (c0_i32_146 : BitVec 32) : Fin 1 → Nat :=
  let c64_i32_145 : BitVec 32 := 64#32
  let v719 : BitVec 32 := Scalar.muli v718 c64_i32_145
  let v720 : BitVec 32 := Scalar.addi v719 c0_i32_146
  let v721 : Index := Scalar.indexCast v720
  ![v721.toNat]

def k0_chk72 (v718 : BitVec 32) : Prop :=
  (∀ (r : Fin 4), ∀ a, (k0_off10 v718 (BitVec.ofNat 32 (16 * r.val))) a + S16.size a ≤ S65536.size a)
theorem k0_off10_inb : ∀ (v718 : BitVec 32) (k0_hw72 : k0_chk72 v718), ∀ (r : Fin 4), ∀ a, (k0_off10 v718 (BitVec.ofNat 32 (16 * r.val))) a + S16.size a ≤ S65536.size a := fun v718 k0_hw72 r => k0_hw72 r

def k0_off11 (k0_t3 : Fin k0_t3_loop.trips) (c0_i32_155 : BitVec 32) : Fin 1 → Nat :=
  let c2_i32_81 : BitVec 32 := 2#32
  let c0_i32_9 : BitVec 32 := 0#32
  let c1_i32_10 : BitVec 32 := 1#32
  let arg10 : BitVec 32 := Scf.iv c0_i32_9 c1_i32_10 k0_t3
  let v395 : BitVec 32 := Scalar.muli c2_i32_81 arg10
  let c128_i32_154 : BitVec 32 := 128#32
  let v764 : BitVec 32 := Scalar.muli v395 c128_i32_154
  let v765 : BitVec 32 := Scalar.addi v764 c0_i32_155
  let v766 : Index := Scalar.indexCast v765
  ![v766.toNat]
def k0_off12 (k0_t3 : Fin k0_t3_loop.trips) (c0_i32_157 : BitVec 32) : Fin 1 → Nat :=
  let c2_i32_81 : BitVec 32 := 2#32
  let c0_i32_9 : BitVec 32 := 0#32
  let c1_i32_10 : BitVec 32 := 1#32
  let arg10 : BitVec 32 := Scf.iv c0_i32_9 c1_i32_10 k0_t3
  let v395 : BitVec 32 := Scalar.muli c2_i32_81 arg10
  let c128_i32_156 : BitVec 32 := 128#32
  let v768 : BitVec 32 := Scalar.muli v395 c128_i32_156
  let v769 : BitVec 32 := Scalar.addi v768 c0_i32_157
  let c16_i32_158 : BitVec 32 := 16#32
  let v770 : BitVec 32 := Scalar.addi v769 c16_i32_158
  let v771 : Index := Scalar.indexCast v770
  ![v771.toNat]
def k0_off13 (v803 : BitVec 32) (c0_i32_176 : BitVec 32) : Fin 1 → Nat :=
  let c64_i32_175 : BitVec 32 := 64#32
  let v804 : BitVec 32 := Scalar.muli v803 c64_i32_175
  let v805 : BitVec 32 := Scalar.addi v804 c0_i32_176
  let v806 : Index := Scalar.indexCast v805
  ![v806.toNat]

def k0_chk73 (v803 : BitVec 32) : Prop :=
  (∀ (r : Fin 4), ∀ a, (k0_off13 v803 (BitVec.ofNat 32 (16 * r.val))) a + S16.size a ≤ S65536.size a)
theorem k0_off13_inb : ∀ (v803 : BitVec 32) (k0_hw73 : k0_chk73 v803), ∀ (r : Fin 4), ∀ a, (k0_off13 v803 (BitVec.ofNat 32 (16 * r.val))) a + S16.size a ≤ S65536.size a := fun v803 k0_hw73 r => k0_hw73 r

def k0_off14 (v842 : BitVec 32) (c0_i32_185 : BitVec 32) : Fin 1 → Nat :=
  let c64_i32_184 : BitVec 32 := 64#32
  let v843 : BitVec 32 := Scalar.muli v842 c64_i32_184
  let v844 : BitVec 32 := Scalar.addi v843 c0_i32_185
  let v845 : Index := Scalar.indexCast v844
  ![v845.toNat]

def k0_chk74 (v842 : BitVec 32) : Prop :=
  (∀ (r : Fin 4), ∀ a, (k0_off14 v842 (BitVec.ofNat 32 (16 * r.val))) a + S16.size a ≤ S65536.size a)
theorem k0_off14_inb : ∀ (v842 : BitVec 32) (k0_hw74 : k0_chk74 v842), ∀ (r : Fin 4), ∀ a, (k0_off14 v842 (BitVec.ofNat 32 (16 * r.val))) a + S16.size a ≤ S65536.size a := fun v842 k0_hw74 r => k0_hw74 r

def k0_off15 (v889 : BitVec 32) (c0_i32_194 : BitVec 32) : Fin 1 → Nat :=
  let c64_i32_193 : BitVec 32 := 64#32
  let v890 : BitVec 32 := Scalar.muli v889 c64_i32_193
  let v891 : BitVec 32 := Scalar.addi v890 c0_i32_194
  let v892 : Index := Scalar.indexCast v891
  ![v892.toNat]

def k0_chk75 (v889 : BitVec 32) : Prop :=
  (∀ (r : Fin 4), ∀ a, (k0_off15 v889 (BitVec.ofNat 32 (16 * r.val))) a + S16.size a ≤ S65536.size a)
theorem k0_off15_inb : ∀ (v889 : BitVec 32) (k0_hw75 : k0_chk75 v889), ∀ (r : Fin 4), ∀ a, (k0_off15 v889 (BitVec.ofNat 32 (16 * r.val))) a + S16.size a ≤ S65536.size a := fun v889 k0_hw75 r => k0_hw75 r

def k0_off16 (v936 : BitVec 32) (c0_i32_203 : BitVec 32) : Fin 1 → Nat :=
  let c64_i32_202 : BitVec 32 := 64#32
  let v937 : BitVec 32 := Scalar.muli v936 c64_i32_202
  let v938 : BitVec 32 := Scalar.addi v937 c0_i32_203
  let v939 : Index := Scalar.indexCast v938
  ![v939.toNat]

def k0_chk76 (v936 : BitVec 32) : Prop :=
  (∀ (r : Fin 4), ∀ a, (k0_off16 v936 (BitVec.ofNat 32 (16 * r.val))) a + S16.size a ≤ S65536.size a)
theorem k0_off16_inb : ∀ (v936 : BitVec 32) (k0_hw76 : k0_chk76 v936), ∀ (r : Fin 4), ∀ a, (k0_off16 v936 (BitVec.ofNat 32 (16 * r.val))) a + S16.size a ≤ S65536.size a := fun v936 k0_hw76 r => k0_hw76 r

def k0_off17 (v983 : BitVec 32) (c0_i32_212 : BitVec 32) : Fin 1 → Nat :=
  let c64_i32_211 : BitVec 32 := 64#32
  let v984 : BitVec 32 := Scalar.muli v983 c64_i32_211
  let v985 : BitVec 32 := Scalar.addi v984 c0_i32_212
  let v986 : Index := Scalar.indexCast v985
  ![v986.toNat]

def k0_chk77 (v983 : BitVec 32) : Prop :=
  (∀ (r : Fin 4), ∀ a, (k0_off17 v983 (BitVec.ofNat 32 (16 * r.val))) a + S16.size a ≤ S65536.size a)
theorem k0_off17_inb : ∀ (v983 : BitVec 32) (k0_hw77 : k0_chk77 v983), ∀ (r : Fin 4), ∀ a, (k0_off17 v983 (BitVec.ofNat 32 (16 * r.val))) a + S16.size a ≤ S65536.size a := fun v983 k0_hw77 r => k0_hw77 r

def k0_off18 (v1030 : BitVec 32) (c0_i32_221 : BitVec 32) : Fin 1 → Nat :=
  let c64_i32_220 : BitVec 32 := 64#32
  let v1031 : BitVec 32 := Scalar.muli v1030 c64_i32_220
  let v1032 : BitVec 32 := Scalar.addi v1031 c0_i32_221
  let v1033 : Index := Scalar.indexCast v1032
  ![v1033.toNat]

def k0_chk78 (v1030 : BitVec 32) : Prop :=
  (∀ (r : Fin 4), ∀ a, (k0_off18 v1030 (BitVec.ofNat 32 (16 * r.val))) a + S16.size a ≤ S65536.size a)
theorem k0_off18_inb : ∀ (v1030 : BitVec 32) (k0_hw78 : k0_chk78 v1030), ∀ (r : Fin 4), ∀ a, (k0_off18 v1030 (BitVec.ofNat 32 (16 * r.val))) a + S16.size a ≤ S65536.size a := fun v1030 k0_hw78 r => k0_hw78 r

def k0_off19 (v1077 : BitVec 32) (c0_i32_230 : BitVec 32) : Fin 1 → Nat :=
  let c64_i32_229 : BitVec 32 := 64#32
  let v1078 : BitVec 32 := Scalar.muli v1077 c64_i32_229
  let v1079 : BitVec 32 := Scalar.addi v1078 c0_i32_230
  let v1080 : Index := Scalar.indexCast v1079
  ![v1080.toNat]

def k0_chk79 (v1077 : BitVec 32) : Prop :=
  (∀ (r : Fin 4), ∀ a, (k0_off19 v1077 (BitVec.ofNat 32 (16 * r.val))) a + S16.size a ≤ S65536.size a)
theorem k0_off19_inb : ∀ (v1077 : BitVec 32) (k0_hw79 : k0_chk79 v1077), ∀ (r : Fin 4), ∀ a, (k0_off19 v1077 (BitVec.ofNat 32 (16 * r.val))) a + S16.size a ≤ S65536.size a := fun v1077 k0_hw79 r => k0_hw79 r

def k0_off20 (v1124 : BitVec 32) (c0_i32_239 : BitVec 32) : Fin 1 → Nat :=
  let c64_i32_238 : BitVec 32 := 64#32
  let v1125 : BitVec 32 := Scalar.muli v1124 c64_i32_238
  let v1126 : BitVec 32 := Scalar.addi v1125 c0_i32_239
  let v1127 : Index := Scalar.indexCast v1126
  ![v1127.toNat]

def k0_chk80 (v1124 : BitVec 32) : Prop :=
  (∀ (r : Fin 4), ∀ a, (k0_off20 v1124 (BitVec.ofNat 32 (16 * r.val))) a + S16.size a ≤ S65536.size a)
theorem k0_off20_inb : ∀ (v1124 : BitVec 32) (k0_hw80 : k0_chk80 v1124), ∀ (r : Fin 4), ∀ a, (k0_off20 v1124 (BitVec.ofNat 32 (16 * r.val))) a + S16.size a ≤ S65536.size a := fun v1124 k0_hw80 r => k0_hw80 r

def k0_off21 (k0_t3 : Fin k0_t3_loop.trips) (c0_i32_248 : BitVec 32) : Fin 1 → Nat :=
  let c2_i32_173 : BitVec 32 := 2#32
  let c0_i32_9 : BitVec 32 := 0#32
  let c1_i32_10 : BitVec 32 := 1#32
  let arg10 : BitVec 32 := Scf.iv c0_i32_9 c1_i32_10 k0_t3
  let v800 : BitVec 32 := Scalar.muli c2_i32_173 arg10
  let c1_i32_174 : BitVec 32 := 1#32
  let v801 : BitVec 32 := Scalar.addi v800 c1_i32_174
  let c128_i32_247 : BitVec 32 := 128#32
  let v1170 : BitVec 32 := Scalar.muli v801 c128_i32_247
  let v1171 : BitVec 32 := Scalar.addi v1170 c0_i32_248
  let v1172 : Index := Scalar.indexCast v1171
  ![v1172.toNat]
def k0_off22 (k0_t3 : Fin k0_t3_loop.trips) (c0_i32_250 : BitVec 32) : Fin 1 → Nat :=
  let c2_i32_173 : BitVec 32 := 2#32
  let c0_i32_9 : BitVec 32 := 0#32
  let c1_i32_10 : BitVec 32 := 1#32
  let arg10 : BitVec 32 := Scf.iv c0_i32_9 c1_i32_10 k0_t3
  let v800 : BitVec 32 := Scalar.muli c2_i32_173 arg10
  let c1_i32_174 : BitVec 32 := 1#32
  let v801 : BitVec 32 := Scalar.addi v800 c1_i32_174
  let c128_i32_249 : BitVec 32 := 128#32
  let v1174 : BitVec 32 := Scalar.muli v801 c128_i32_249
  let v1175 : BitVec 32 := Scalar.addi v1174 c0_i32_250
  let c16_i32_251 : BitVec 32 := 16#32
  let v1176 : BitVec 32 := Scalar.addi v1175 c16_i32_251
  let v1177 : Index := Scalar.indexCast v1176
  ![v1177.toNat]
def k0_off23 (v16 : BitVec 32) (c0_i32_12 : BitVec 32) : Fin 1 → Nat :=
  let c64_i32 : BitVec 32 := 64#32
  let v17 : BitVec 32 := Scalar.muli v16 c64_i32
  let v18 : BitVec 32 := Scalar.addi v17 c0_i32_12
  let v19 : Index := Scalar.indexCast v18
  ![v19.toNat]

def k0_chk81 (v16 : BitVec 32) : Prop :=
  (∀ (r : Fin 4), ∀ a, (k0_off23 v16 (BitVec.ofNat 32 (16 * r.val))) a + S16.size a ≤ S65536.size a)
theorem k0_off23_inb : ∀ (v16 : BitVec 32) (k0_hw81 : k0_chk81 v16), ∀ (r : Fin 4), ∀ a, (k0_off23 v16 (BitVec.ofNat 32 (16 * r.val))) a + S16.size a ≤ S65536.size a := fun v16 k0_hw81 r => k0_hw81 r

def k0_off24 (v55 : BitVec 32) (c0_i32_18 : BitVec 32) : Fin 1 → Nat :=
  let c64_i32_17 : BitVec 32 := 64#32
  let v56 : BitVec 32 := Scalar.muli v55 c64_i32_17
  let v57 : BitVec 32 := Scalar.addi v56 c0_i32_18
  let v58 : Index := Scalar.indexCast v57
  ![v58.toNat]

def k0_chk82 (v55 : BitVec 32) : Prop :=
  (∀ (r : Fin 4), ∀ a, (k0_off24 v55 (BitVec.ofNat 32 (16 * r.val))) a + S16.size a ≤ S65536.size a)
theorem k0_off24_inb : ∀ (v55 : BitVec 32) (k0_hw82 : k0_chk82 v55), ∀ (r : Fin 4), ∀ a, (k0_off24 v55 (BitVec.ofNat 32 (16 * r.val))) a + S16.size a ≤ S65536.size a := fun v55 k0_hw82 r => k0_hw82 r

def k0_off25 (v102 : BitVec 32) (c0_i32_27 : BitVec 32) : Fin 1 → Nat :=
  let c64_i32_26 : BitVec 32 := 64#32
  let v103 : BitVec 32 := Scalar.muli v102 c64_i32_26
  let v104 : BitVec 32 := Scalar.addi v103 c0_i32_27
  let v105 : Index := Scalar.indexCast v104
  ![v105.toNat]

def k0_chk83 (v102 : BitVec 32) : Prop :=
  (∀ (r : Fin 4), ∀ a, (k0_off25 v102 (BitVec.ofNat 32 (16 * r.val))) a + S16.size a ≤ S65536.size a)
theorem k0_off25_inb : ∀ (v102 : BitVec 32) (k0_hw83 : k0_chk83 v102), ∀ (r : Fin 4), ∀ a, (k0_off25 v102 (BitVec.ofNat 32 (16 * r.val))) a + S16.size a ≤ S65536.size a := fun v102 k0_hw83 r => k0_hw83 r

def k0_off26 (v149 : BitVec 32) (c0_i32_36 : BitVec 32) : Fin 1 → Nat :=
  let c64_i32_35 : BitVec 32 := 64#32
  let v150 : BitVec 32 := Scalar.muli v149 c64_i32_35
  let v151 : BitVec 32 := Scalar.addi v150 c0_i32_36
  let v152 : Index := Scalar.indexCast v151
  ![v152.toNat]

def k0_chk84 (v149 : BitVec 32) : Prop :=
  (∀ (r : Fin 4), ∀ a, (k0_off26 v149 (BitVec.ofNat 32 (16 * r.val))) a + S16.size a ≤ S65536.size a)
theorem k0_off26_inb : ∀ (v149 : BitVec 32) (k0_hw84 : k0_chk84 v149), ∀ (r : Fin 4), ∀ a, (k0_off26 v149 (BitVec.ofNat 32 (16 * r.val))) a + S16.size a ≤ S65536.size a := fun v149 k0_hw84 r => k0_hw84 r

def k0_off27 (v196 : BitVec 32) (c0_i32_45 : BitVec 32) : Fin 1 → Nat :=
  let c64_i32_44 : BitVec 32 := 64#32
  let v197 : BitVec 32 := Scalar.muli v196 c64_i32_44
  let v198 : BitVec 32 := Scalar.addi v197 c0_i32_45
  let v199 : Index := Scalar.indexCast v198
  ![v199.toNat]

def k0_chk85 (v196 : BitVec 32) : Prop :=
  (∀ (r : Fin 4), ∀ a, (k0_off27 v196 (BitVec.ofNat 32 (16 * r.val))) a + S16.size a ≤ S65536.size a)
theorem k0_off27_inb : ∀ (v196 : BitVec 32) (k0_hw85 : k0_chk85 v196), ∀ (r : Fin 4), ∀ a, (k0_off27 v196 (BitVec.ofNat 32 (16 * r.val))) a + S16.size a ≤ S65536.size a := fun v196 k0_hw85 r => k0_hw85 r

def k0_off28 (v243 : BitVec 32) (c0_i32_54 : BitVec 32) : Fin 1 → Nat :=
  let c64_i32_53 : BitVec 32 := 64#32
  let v244 : BitVec 32 := Scalar.muli v243 c64_i32_53
  let v245 : BitVec 32 := Scalar.addi v244 c0_i32_54
  let v246 : Index := Scalar.indexCast v245
  ![v246.toNat]

def k0_chk86 (v243 : BitVec 32) : Prop :=
  (∀ (r : Fin 4), ∀ a, (k0_off28 v243 (BitVec.ofNat 32 (16 * r.val))) a + S16.size a ≤ S65536.size a)
theorem k0_off28_inb : ∀ (v243 : BitVec 32) (k0_hw86 : k0_chk86 v243), ∀ (r : Fin 4), ∀ a, (k0_off28 v243 (BitVec.ofNat 32 (16 * r.val))) a + S16.size a ≤ S65536.size a := fun v243 k0_hw86 r => k0_hw86 r

def k0_off29 (v290 : BitVec 32) (c0_i32_63 : BitVec 32) : Fin 1 → Nat :=
  let c64_i32_62 : BitVec 32 := 64#32
  let v291 : BitVec 32 := Scalar.muli v290 c64_i32_62
  let v292 : BitVec 32 := Scalar.addi v291 c0_i32_63
  let v293 : Index := Scalar.indexCast v292
  ![v293.toNat]

def k0_chk87 (v290 : BitVec 32) : Prop :=
  (∀ (r : Fin 4), ∀ a, (k0_off29 v290 (BitVec.ofNat 32 (16 * r.val))) a + S16.size a ≤ S65536.size a)
theorem k0_off29_inb : ∀ (v290 : BitVec 32) (k0_hw87 : k0_chk87 v290), ∀ (r : Fin 4), ∀ a, (k0_off29 v290 (BitVec.ofNat 32 (16 * r.val))) a + S16.size a ≤ S65536.size a := fun v290 k0_hw87 r => k0_hw87 r

def k0_off30 (v337 : BitVec 32) (c0_i32_72 : BitVec 32) : Fin 1 → Nat :=
  let c64_i32_71 : BitVec 32 := 64#32
  let v338 : BitVec 32 := Scalar.muli v337 c64_i32_71
  let v339 : BitVec 32 := Scalar.addi v338 c0_i32_72
  let v340 : Index := Scalar.indexCast v339
  ![v340.toNat]

def k0_chk88 (v337 : BitVec 32) : Prop :=
  (∀ (r : Fin 4), ∀ a, (k0_off30 v337 (BitVec.ofNat 32 (16 * r.val))) a + S16.size a ≤ S65536.size a)
theorem k0_off30_inb : ∀ (v337 : BitVec 32) (k0_hw88 : k0_chk88 v337), ∀ (r : Fin 4), ∀ a, (k0_off30 v337 (BitVec.ofNat 32 (16 * r.val))) a + S16.size a ≤ S65536.size a := fun v337 k0_hw88 r => k0_hw88 r

def k0_off31 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32_0 : BitVec 32 := 0#32
  let c1_i32 : BitVec 32 := 1#32
  let arg9 : BitVec 32 := Scf.iv c0_i32_0 c1_i32 k0_t1
  let c125_i32 : BitVec 32 := 125#32
  let v9 : BitVec 32 := Scalar.muli arg9 c125_i32
  let v10 : BitVec 32 := Scalar.addi v2 v9
  let c128_i32 : BitVec 32 := 128#32
  let v391 : BitVec 32 := Scalar.muli v10 c128_i32
  ![v391.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x56 : Shape := ⟨2, ![100000, 56]⟩
abbrev S1024x4x16 : Shape := ⟨3, ![1024, 4, 16]⟩
abbrev S_ : Shape := ⟨0, ![]⟩
abbrev S1024x4x1x16 : Shape := ⟨4, ![1024, 4, 1, 16]⟩
abbrev S1024x4x2x16 : Shape := ⟨4, ![1024, 4, 2, 16]⟩
abbrev S8x128x128 : Shape := ⟨3, ![8, 128, 128]⟩
abbrev S100000x8x7 : Shape := ⟨3, ![100000, 8, 7]⟩
abbrev S7 : Shape := ⟨1, ![7]⟩
abbrev S1x1x7 : Shape := ⟨3, ![1, 1, 7]⟩
abbrev S100000x8 : Shape := ⟨2, ![100000, 8]⟩
abbrev S8 : Shape := ⟨1, ![8]⟩
abbrev S1x8 : Shape := ⟨2, ![1, 8]⟩
abbrev S100000x8x1 : Shape := ⟨3, ![100000, 8, 1]⟩
abbrev S100000x8x2 : Shape := ⟨3, ![100000, 8, 2]⟩
abbrev S100000x8x128 : Shape := ⟨3, ![100000, 8, 128]⟩
abbrev S100000x128 : Shape := ⟨2, ![100000, 128]⟩

abbrev nBuf : Space → Nat
  | .hbm => 44
  | .vmem => 0
  | .smem => 0
  | _ => 0

abbrev bufTy : (tb : Table) → Fin (tcTables nBuf tb) → BufTy
  | .hbm, ⟨0, _⟩ => ⟨S100000x56, .i32⟩
  | .hbm, ⟨1, _⟩ => ⟨S1024x4x16, .i32⟩
  | .hbm, ⟨2, _⟩ => ⟨S_, .i32⟩
  | .hbm, ⟨3, _⟩ => ⟨S1024x4x16, .i32⟩
  | .hbm, ⟨4, _⟩ => ⟨S1024x4x16, .i32⟩
  | .hbm, ⟨5, _⟩ => ⟨S1024x4x16, .f32⟩
  | .hbm, ⟨6, _⟩ => ⟨S_, .i32⟩
  | .hbm, ⟨7, _⟩ => ⟨S1024x4x16, .i32⟩
  | .hbm, ⟨8, _⟩ => ⟨S1024x4x16, .i32⟩
  | .hbm, ⟨9, _⟩ => ⟨S1024x4x16, .f32⟩
  | .hbm, ⟨10, _⟩ => ⟨S1024x4x1x16, .f32⟩
  | .hbm, ⟨11, _⟩ => ⟨S1024x4x1x16, .f32⟩
  | .hbm, ⟨12, _⟩ => ⟨S1024x4x2x16, .f32⟩
  | .hbm, ⟨13, _⟩ => ⟨S8x128x128, .f32⟩
  | .hbm, ⟨14, _⟩ => ⟨S100000x8x7, .i32⟩
  | .hbm, ⟨15, _⟩ => ⟨S7, .i32⟩
  | .hbm, ⟨16, _⟩ => ⟨S1x1x7, .i32⟩
  | .hbm, ⟨17, _⟩ => ⟨S100000x8x7, .i32⟩
  | .hbm, ⟨18, _⟩ => ⟨S100000x8x7, .i32⟩
  | .hbm, ⟨19, _⟩ => ⟨S_, .i32⟩
  | .hbm, ⟨20, _⟩ => ⟨S100000x8, .i32⟩
  | .hbm, ⟨21, _⟩ => ⟨S8, .i32⟩
  | .hbm, ⟨22, _⟩ => ⟨S1x8, .i32⟩
  | .hbm, ⟨23, _⟩ => ⟨S_, .i32⟩
  | .hbm, ⟨24, _⟩ => ⟨S1x8, .i32⟩
  | .hbm, ⟨25, _⟩ => ⟨S1x8, .i1⟩
  | .hbm, ⟨26, _⟩ => ⟨S_, .i32⟩
  | .hbm, ⟨27, _⟩ => ⟨S1x8, .i32⟩
  | .hbm, ⟨28, _⟩ => ⟨S1x8, .i32⟩
  | .hbm, ⟨29, _⟩ => ⟨S1x8, .i32⟩
  | .hbm, ⟨30, _⟩ => ⟨S_, .i32⟩
  | .hbm, ⟨31, _⟩ => ⟨S100000x8, .i32⟩
  | .hbm, ⟨32, _⟩ => ⟨S100000x8, .i1⟩
  | .hbm, ⟨33, _⟩ => ⟨S_, .i32⟩
  | .hbm, ⟨34, _⟩ => ⟨S100000x8, .i32⟩
  | .hbm, ⟨35, _⟩ => ⟨S100000x8, .i32⟩
  | .hbm, ⟨36, _⟩ => ⟨S100000x8, .i32⟩
  | .hbm, ⟨37, _⟩ => ⟨S100000x8, .i32⟩
  | .hbm, ⟨38, _⟩ => ⟨S100000x8x1, .i32⟩
  | .hbm, ⟨39, _⟩ => ⟨S100000x8x1, .i32⟩
  | .hbm, ⟨40, _⟩ => ⟨S100000x8x2, .i32⟩
  | .hbm, ⟨41, _⟩ => ⟨S100000x8x128, .f32⟩
  | .hbm, ⟨42, _⟩ => ⟨S_, .f32⟩
  | .hbm, ⟨43, _⟩ => ⟨S100000x128, .f32⟩
  | _, _ => ⟨S100000x56, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Table.lean ====
abbrev S56x2x128 : Shape := ⟨3, ![56, 2, 128]⟩
abbrev S1024x128 : Shape := ⟨2, ![1024, 128]⟩
abbrev S1024x56 : Shape := ⟨2, ![1024, 56]⟩
abbrev S56x1x128 : Shape := ⟨3, ![56, 1, 128]⟩
abbrev S56x128 : Shape := ⟨2, ![56, 128]⟩

abbrev nBuf : Space → Nat
  | .hbm => 2
  | .vmem => 2
  | .smem => 0
  | _ => 0

abbrev bufTy : (tb : Table) → Fin (tcTables nBuf tb) → BufTy
  | .hbm, ⟨0, _⟩ => ⟨S56x2x128, .f32⟩
  | .hbm, ⟨1, _⟩ => ⟨S1024x128, .f32⟩
  | .local _ .vmem, ⟨0, _⟩ => ⟨S56x2x128, .f32⟩
  | .local _ .vmem, ⟨1, _⟩ => ⟨S1024x128, .f32⟩
  | _, _ => ⟨S56x2x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S56x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TableReferenceIdeal.lean ====
abbrev S56x2x128 : Shape := ⟨3, ![56, 2, 128]⟩
abbrev S128 : Shape := ⟨1, ![128]⟩
abbrev S128x1 : Shape := ⟨2, ![128, 1]⟩
abbrev S7 : Shape := ⟨1, ![7]⟩
abbrev S1x7 : Shape := ⟨2, ![1, 7]⟩
abbrev S128x7 : Shape := ⟨2, ![128, 7]⟩
abbrev S_ : Shape := ⟨0, ![]⟩
abbrev S8x7x2x128 : Shape := ⟨4, ![8, 7, 2, 128]⟩
abbrev S128x7x1 : Shape := ⟨3, ![128, 7, 1]⟩
abbrev S128x7x2 : Shape := ⟨3, ![128, 7, 2]⟩
abbrev S8x128x7x128 : Shape := ⟨4, ![8, 128, 7, 128]⟩
abbrev S8x128x128 : Shape := ⟨3, ![8, 128, 128]⟩
abbrev S1024x128 : Shape := ⟨2, ![1024, 128]⟩

abbrev nBuf : Space → Nat
  | .hbm => 36
  | .vmem => 0
  | .smem => 0
  | _ => 0

abbrev bufTy : (tb : Table) → Fin (tcTables nBuf tb) → BufTy
  | .hbm, ⟨0, _⟩ => ⟨S56x2x128, .f32⟩
  | .hbm, ⟨1, _⟩ => ⟨S128, .i32⟩
  | .hbm, ⟨2, _⟩ => ⟨S128x1, .i32⟩
  | .hbm, ⟨3, _⟩ => ⟨S7, .i32⟩
  | .hbm, ⟨4, _⟩ => ⟨S1x7, .i32⟩
  | .hbm, ⟨5, _⟩ => ⟨S128x7, .i32⟩
  | .hbm, ⟨6, _⟩ => ⟨S128x7, .i32⟩
  | .hbm, ⟨7, _⟩ => ⟨S128x7, .i32⟩
  | .hbm, ⟨8, _⟩ => ⟨S_, .i32⟩
  | .hbm, ⟨9, _⟩ => ⟨S128x7, .i32⟩
  | .hbm, ⟨10, _⟩ => ⟨S128x7, .i32⟩
  | .hbm, ⟨11, _⟩ => ⟨S8x7x2x128, .f32⟩
  | .hbm, ⟨12, _⟩ => ⟨S7, .i32⟩
  | .hbm, ⟨13, _⟩ => ⟨S1x7, .i32⟩
  | .hbm, ⟨14, _⟩ => ⟨S_, .i32⟩
  | .hbm, ⟨15, _⟩ => ⟨S1x7, .i32⟩
  | .hbm, ⟨16, _⟩ => ⟨S1x7, .i1⟩
  | .hbm, ⟨17, _⟩ => ⟨S_, .i32⟩
  | .hbm, ⟨18, _⟩ => ⟨S1x7, .i32⟩
  | .hbm, ⟨19, _⟩ => ⟨S1x7, .i32⟩
  | .hbm, ⟨20, _⟩ => ⟨S1x7, .i32⟩
  | .hbm, ⟨21, _⟩ => ⟨S_, .i32⟩
  | .hbm, ⟨22, _⟩ => ⟨S128x7, .i32⟩
  | .hbm, ⟨23, _⟩ => ⟨S128x7, .i1⟩
  | .hbm, ⟨24, _⟩ => ⟨S_, .i32⟩
  | .hbm, ⟨25, _⟩ => ⟨S128x7, .i32⟩
  | .hbm, ⟨26, _⟩ => ⟨S128x7, .i32⟩
  | .hbm, ⟨27, _⟩ => ⟨S128x7, .i32⟩
  | .hbm, ⟨28, _⟩ => ⟨S128x7, .i32⟩
  | .hbm, ⟨29, _⟩ => ⟨S128x7x1, .i32⟩
  | .hbm, ⟨30, _⟩ => ⟨S128x7x1, .i32⟩
  | .hbm, ⟨31, _⟩ => ⟨S128x7x2, .i32⟩
  | .hbm, ⟨32, _⟩ => ⟨S8x128x7x128, .f32⟩
  | .hbm, ⟨33, _⟩ => ⟨S_, .f32⟩
  | .hbm, ⟨34, _⟩ => ⟨S8x128x128, .f32⟩
  | .hbm, ⟨35, _⟩ => ⟨S1024x128, .f32⟩
  | _, _ => ⟨S56x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_2 : Ref sig .tc := ⟨.hbm, 21, rfl⟩
abbrev main_v17 : Ref sig .tc := ⟨.hbm, 22, rfl⟩
abbrev main_v18 : Ref sig .tc := ⟨.hbm, 23, rfl⟩
abbrev main_c_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Setup.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.Pre_binary

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Positions of a flat array -/

/-- Position `k` of a flat array of `n` entries (`k` taken around past the end). -/
def ix (n : ℕ) [NeZero n] (k : ℕ) : (⟨1, ![n]⟩ : Shape).Idx :=
  fun a => ⟨k % n, by
    obtain rfl : a = 0 := Subsingleton.elim _ _
    exact Nat.mod_lt _ (NeZero.pos n)⟩

/-- Entry `k` of a flat array. -/
def rd (n : ℕ) [NeZero n] {α : Type} (f : (⟨1, ![n]⟩ : Shape).Idx → α) (k : ℕ) : α := f (ix n k)

theorem ix_self {n : ℕ} [NeZero n] (j : (⟨1, ![n]⟩ : Shape).Idx) : ix n (j 0).val = j := by
  funext a
  obtain rfl : a = 0 := Subsingleton.elim _ _
  exact Fin.ext (Nat.mod_eq_of_lt (j 0).isLt)

theorem rd_self {n : ℕ} [NeZero n] {α : Type} (f : (⟨1, ![n]⟩ : Shape).Idx → α) (j : (⟨1, ![n]⟩ : Shape).Idx) :
    rd n f (j 0).val = f j := congrArg f (ix_self j)

theorem ix_val {n : ℕ} [NeZero n] {k : ℕ} (h : k < n) : ((ix n k) 0).val = k := Nat.mod_eq_of_lt h

/-- The number of a lane of a sixteen-lane vector. -/
abbrev lane (x : S16.Idx) : ℕ := (x 0).val
theorem lane_lt (x : S16.Idx) : lane x < 16 := (x 0).isLt

/-! ## What the kernel computes, in its own words -/

/-- The table row of chunk `c` of the row whose 56 entries begin at `b`: the seven entries' bits put together, and the
    chunk's 128 rows passed over. -/
def codeAt (f : S7168.Idx → BitVec 32) (b c : ℕ) : BitVec 32 :=
  rd 7168 f (b + (7 * c + 0)) + rd 7168 f (b + (7 * c + 1)) <<< (1#32) + rd 7168 f (b + (7 * c + 2)) <<< (2#32)
    + rd 7168 f (b + (7 * c + 3)) <<< (3#32) + rd 7168 f (b + (7 * c + 4)) <<< (4#32) + rd 7168 f (b + (7 * c + 5)) <<< (5#32)
    + rd 7168 f (b + (7 * c + 6)) <<< (6#32) + BitVec.ofNat 32 (128 * c)

variable {F : FTy → Type} [FloatOps F]

/-- The float in the low (`h = 0`) or the high half of a word. -/
def half (h : ℕ) (w : BitVec 32) : F .f32 :=
  if h = 0 then FloatOps.ofBits .f32 (w <<< (16#32)) else FloatOps.ofBits .f32 (w &&& 4294901760#32)

/-- Lane `l` of half `h` of word group `g` of the sum of the eight table rows `w`. -/
def rowEl (T : S65536.Idx → BitVec 32) (w : ℕ → BitVec 32) (h g l : ℕ) : F .f32 :=
  let t := fun c => half (F := F) h (rd 65536 T ((w c).toNat * 64 + 16 * g + l))
  FloatOps.addf (FloatOps.addf (FloatOps.addf (FloatOps.addf (FloatOps.addf (FloatOps.addf (FloatOps.addf
    (t 0) (t 1)) (t 2)) (t 3)) (t 4)) (t 5)) (t 6)) (t 7)

/-- Entry `128 * r + 16 * q + l` of a block's result. -/
def outEl (T : S65536.Idx → BitVec 32) (w : ℕ → BitVec 32) (q l : ℕ) : F .f32 := rowEl T w (q % 2) (q / 2) l

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile's buffers -/

abbrev xV : Memref sig .scVector .hbm S5600000 .i32 := Memref.whole main_v0_scv
abbrev tV : Memref sig .scVector .hbm S65536 .i32 := Memref.whole main_v1_scv
abbrev oV : Memref sig .scVector .hbm S12800000 .f32 := Memref.whole main_v2_scv
abbrev sX : Memref sig .scVector .vmem S7168 .i32 := Memref.whole cc0_scratch0
abbrev sT : Memref sig .scVector .vmem S65536 .i32 := Memref.whole cc0_scratch1
abbrev sW : Memref sig .scVector .vmem S1024 .i32 := Memref.whole cc0_scratch2
abbrev sO : Memref sig .scVector .vmem S16000 .f32 := Memref.whole cc0_scratch3

section Parts

variable (d : Dev nD) (ci : Fin τ.nSC) (ji : Fin τ.nSub)

abbrev xPt (f : S7168.Idx → BitVec 32) : sProp 𝕄 := (V d ci ji).loc cc0_scratch0 ↦{fullShare} f
abbrev tPt (f : S65536.Idx → BitVec 32) : sProp 𝕄 := (V d ci ji).loc cc0_scratch1 ↦{fullShare} f
abbrev wPt (f : S1024.Idx → BitVec 32) : sProp 𝕄 := (V d ci ji).loc cc0_scratch2 ↦{fullShare} f
abbrev oPt (f : S16000.Idx → F .f32) : sProp 𝕄 := (V d ci ji).loc cc0_scratch3 ↦{fullShare} f

/-! ## One group of sixteen rows' codes -/

/-- The codes of groups before `g`, and of group `g` the first `c` chunks', are in place. -/
def CodesTo (f : S7168.Idx → BitVec 32) (g c : ℕ) (w : S1024.Idx → BitVec 32) : Prop :=
  ∀ e, e < 1024 → (e / 128 < g ∨ (e / 128 = g ∧ e % 8 < c)) → rd 1024 w e = codeAt f (e / 8 * 56) (e % 8)

omit [FloatOps F] in
theorem CodesTo_next {f : S7168.Idx → BitVec 32} {g : ℕ} {w : S1024.Idx → BitVec 32} (h : CodesTo f g 8 w) : CodesTo f (g + 1) 0 w := by
  intro e he hd
  exact h e he (by omega)

def StC (f : S7168.Idx → BitVec 32) (g c : ℕ) : sProp 𝕄 :=
  iprop(xPt d ci ji f ∗ ∃ w, ⌜CodesTo f g c w⌝ ∗ wPt d ci ji w)

abbrev gbase (k : Fin k0_t2_loop.trips) (n : ℕ) : IVec S16 32 := addi (k0_pay5 k0_pay1 0#32 1#32 k) (broadcast S16 (BitVec.ofNat 32 n))
abbrev sbase (k : Fin k0_t2_loop.trips) (n : ℕ) : IVec S16 32 := addi (k0_pay6 k0_pay2 0#32 1#32 k) (broadcast S16 (BitVec.ofNat 32 n))

omit [FloatOps F] in
theorem t2_lt (k : Fin k0_t2_loop.trips) : k.val < 8 := k.isLt

omit [FloatOps F] in
theorem iota_lane (x : S16.Idx) : (iota .scVector S16 32 [0] iota_S16_d0_w32_scVector : IVec S16 32) x = BitVec.ofNat 32 (lane x) := by
  simp [iota, lane]

omit [FloatOps F] in
theorem gbase_toNat (k : Fin k0_t2_loop.trips) (n : ℕ) (hn : n < 56) (x : S16.Idx) :
    (gbase k n x).toNat = lane x * 56 + k.val * 896 + n := by
  have hk := t2_lt k
  have hx := lane_lt x
  have e : gbase k n x = BitVec.ofNat 32 (lane x) * 56#32 + (0#32 + BitVec.ofNat 32 k.val * 1#32) * 896#32 + BitVec.ofNat 32 n := by
    rw [← iota_lane x]; rfl
  rw [e]
  simp only [BitVec.toNat_add, BitVec.toNat_mul, BitVec.toNat_ofNat]
  omega

omit [FloatOps F] in
theorem sbase_toNat (k : Fin k0_t2_loop.trips) (n : ℕ) (hn : n < 8) (x : S16.Idx) :
    (sbase k n x).toNat = lane x * 8 + k.val * 128 + n := by
  have hk := t2_lt k
  have hx := lane_lt x
  have e : sbase k n x = BitVec.ofNat 32 (lane x) * 8#32 + (0#32 + BitVec.ofNat 32 k.val * 1#32) * 128#32 + BitVec.ofNat 32 n := by
    rw [← iota_lane x]; rfl
  rw [e]
  simp only [BitVec.toNat_add, BitVec.toNat_mul, BitVec.toNat_ofNat]
  omega

omit [FloatOps F] in
theorem gbase_inb (k : Fin k0_t2_loop.trips) (n : ℕ) (hn : n < 56) :
    ∀ a x, ((![gbase k n] : Fin 1 → IVec S16 32) a x).toNat < S7168.size a := by
  intro a x
  obtain rfl : a = 0 := Subsingleton.elim _ _
  have hk := t2_lt k
  have hx := lane_lt x
  show (gbase k n x).toNat < 7168
  rw [gbase_toNat k n hn x]; omega

omit [FloatOps F] in
theorem sbase_inb (k : Fin k0_t2_loop.trips) (n : ℕ) (hn : n < 8) :
    ∀ a x, ((![sbase k n] : Fin 1 → IVec S16 32) a x).toNat < S1024.size a := by
  intro a x
  obtain rfl : a = 0 := Subsingleton.elim _ _
  have hk := t2_lt k
  have hx := lane_lt x
  show (sbase k n x).toNat < 1024
  rw [sbase_toNat k n hn x]; omega

/-- What the sixteen lanes fetch at entry `n` of their rows. -/
def gat (f : S7168.Idx → BitVec 32) (k n : ℕ) : IVec S16 32 := fun x => rd 7168 f (lane x * 56 + k * 896 + n)

variable {α : Type} {Q : α → sProp (MT nD τ sig (HIx 1) (Elt F) ℕ UU ℕ)}

omit [FloatOps F] in
theorem emb_all {κ : Kind} (b : Ref sig κ) (x : b.ty.shape.Idx) : ((Memref.whole b).access (.whole b.ty.shape)).emb x = x := by
  funext a
  apply Fin.ext
  show 0 + 1 * (x a).val = (x a).val
  omega

omit [FloatOps F] in
theorem read_all {κ : Kind} (b : Ref sig κ) (f : b.ty.Contents (Elt F)) :
    ((Memref.whole b).access (.whole b.ty.shape)).read (Elt F) f = f := by
  funext x
  show f (((Memref.whole b).access (.whole b.ty.shape)).emb x) = f x
  rw [emb_all]

omit [FloatOps F] in
theorem write_all {κ : Kind} (b : Ref sig κ) (f w : b.ty.Contents (Elt F)) :
    ((Memref.whole b).access (.whole b.ty.shape)).write (Elt F) f w Finset.univ = w := by
  funext x
  have h := View.write_emb_of_mem (v := (Memref.whole b).access (.whole b.ty.shape)) f w (Finset.mem_univ x)
  rw [emb_all] at h
  exact h

omit [FloatOps F] in
theorem set_all {κ : Kind} (b : Ref sig κ) : ((Memref.whole b).access (.whole b.ty.shape)).set = Finset.univ := by
  ext x
  simp only [Finset.mem_univ, iff_true]
  exact Finset.mem_map.mpr ⟨x, Finset.mem_univ x, emb_all b x⟩

omit [FloatOps F] in
theorem set_sW : ((sW : Memref sig .scVector .vmem S1024 .i32).access (.whole S1024)).set = Finset.univ := set_all cc0_scratch2
omit [FloatOps F] in
theorem read_sW (f : S1024.Idx → BitVec 32) :
    ((sW : Memref sig .scVector .vmem S1024 .i32).access (.whole S1024)).read (Elt F) f = f := read_all cc0_scratch2 f
omit [FloatOps F] in
theorem write_sW (f w : S1024.Idx → BitVec 32) :
    ((sW : Memref sig .scVector .vmem S1024 .i32).access (.whole S1024)).write (Elt F) f w Finset.univ = w := write_all cc0_scratch2 f w

theorem storeIdx_spec (w : S1024.Idx → BitVec 32) (t : Fin k0_t2_loop.trips) (c : ℕ) (hc : c < 8) (v : IVec S16 32)
    (h : ∀ a x, ((![sbase t c] : Fin 1 → IVec S16 32) a x).toNat < S1024.size a) (j : S1024.Idx) :
    ((∀ x : S16.Idx, (j 0).val ≠ lane x * 8 + t.val * 128 + c) →
      storeIdx (F := F) (e := .i32) w ![sbase t c] v (fun _ => 1#1) false h j = w j)
    ∧ (∀ x : S16.Idx, (j 0).val = lane x * 8 + t.val * 128 + c →
      storeIdx (F := F) (e := .i32) w ![sbase t c] v (fun _ => 1#1) false h j = v x) := by
  have key : ∀ l : List (Fin 16), ∀ w : S1024.Idx → BitVec 32,
      let r := l.foldl (fun g k => fun j : S1024.Idx =>
        if (∀ a, (j a).val = (idxAt (s := S1024) ![sbase t c] h (Shape.ofLane (d := ![16]) k) a).val) then v (Shape.ofLane (d := ![16]) k) else g j) w
      ((∀ x : Fin 16, x ∈ l → (j 0).val ≠ x.val * 8 + t.val * 128 + c) → r j = w j)
      ∧ (∀ x : Fin 16, x ∈ l → (j 0).val = x.val * 8 + t.val * 128 + c → r j = v (Shape.ofLane (d := ![16]) x)) := by
    have hiff : ∀ k : Fin 16, (∀ a, (j a).val = (idxAt (s := S1024) ![sbase t c] h (Shape.ofLane (d := ![16]) k) a).val)
        ↔ (j 0).val = k.val * 8 + t.val * 128 + c := by
      intro k
      have e : (idxAt (s := S1024) ![sbase t c] h (Shape.ofLane (d := ![16]) k) 0).val = k.val * 8 + t.val * 128 + c :=
        sbase_toNat t c hc (Shape.ofLane (d := ![16]) k)
      constructor
      · intro ha; rw [ha 0, e]
      · intro ha a
        obtain rfl : a = 0 := Subsingleton.elim _ _
        rw [ha, e]
    intro l
    induction l with
    | nil => intro w; exact ⟨fun _ => rfl, fun x hx => absurd hx (List.not_mem_nil)⟩
    | cons k l ih =>
      intro w
      obtain ⟨i1, i2⟩ := ih (fun j : S1024.Idx =>
        if (∀ a, (j a).val = (idxAt (s := S1024) ![sbase t c] h (Shape.ofLane (d := ![16]) k) a).val) then v (Shape.ofLane (d := ![16]) k) else w j)
      refine ⟨fun hm => ?_, fun x hx hj => ?_⟩
      · refine (i1 fun x hx => hm x (List.mem_cons_of_mem _ hx)).trans ?_
        exact if_neg fun hh => hm k List.mem_cons_self ((hiff k).mp hh)
      · by_cases hxl : x ∈ l
        · exact i2 x hxl hj
        · have hxk : x = k := (List.mem_cons.mp hx).resolve_right hxl
          subst hxk
          refine (i1 fun y hy hy' => ?_).trans (if_pos ((hiff x).mpr hj))
          have : y = x := Fin.ext (by omega)
          exact hxl (this ▸ hy)
  have ol : ∀ x : S16.Idx, Shape.ofLane (d := ![16]) (x 0) = x := by
    intro x; funext a
    obtain rfl : a = 0 := Subsingleton.elim _ _
    rfl
  obtain ⟨k1, k2⟩ := key (List.finRange 16) w
  have es : storeIdx (F := F) (e := .i32) w ![sbase t c] v (fun _ => 1#1) false h = (List.finRange 16).foldl (fun g k => fun j : S1024.Idx =>
        if (∀ a, (j a).val = (idxAt (s := S1024) ![sbase t c] h (Shape.ofLane (d := ![16]) k) a).val) then v (Shape.ofLane (d := ![16]) k) else g j) w := by
    unfold storeIdx
    simp only [show ((1#1 : BitVec 1) = 1) from rfl, if_true, Bool.false_eq_true, if_false]
    rfl
  rw [es]
  refine ⟨fun hm => ?_, fun x hx => ?_⟩
  · exact k1 fun x _ => hm (Shape.ofLane (d := ![16]) x)
  · have := k2 (x 0) (List.mem_finRange _) hx
    rw [ol x] at this
    exact this

theorem CodesTo_step {f : S7168.Idx → BitVec 32} (t : Fin k0_t2_loop.trips) (c : ℕ) (hc : c < 8) {v : IVec S16 32}
    (hv : ∀ x, v x = codeAt f (lane x * 56 + t.val * 896) c) {w : S1024.Idx → BitVec 32}
    (h : ∀ a x, ((![sbase t c] : Fin 1 → IVec S16 32) a x).toNat < S1024.size a) (hw : CodesTo f t.val c w) :
    CodesTo f t.val (c + 1) (storeIdx (F := F) (e := .i32) w ![sbase t c] v (fun _ => 1#1) false h) := by
  intro e he hd
  have hj : ((ix 1024 e) 0).val = e := ix_val he
  obtain ⟨s1, s2⟩ := storeIdx_spec (F := F) w t c hc v h (ix 1024 e)
  by_cases hx : e / 128 = t.val ∧ e % 8 = c
  · have hl : e / 8 % 16 < 16 := Nat.mod_lt _ (by omega)
    have hlv : lane (ix 16 (e / 8 % 16)) = e / 8 % 16 := ix_val hl
    rw [rd, s2 (ix 16 (e / 8 % 16)) (by rw [hj, hlv]; omega), hv, hlv]
    congr 1 <;> omega
  · rw [rd, s1 (fun x => by rw [hj]; have := lane_lt x; omega)]
    exact hw e he (by omega)

theorem assume_step {A : sProp 𝕄} {P : Prop} {dc : Decidable P} (h : P)
    {k : PLift P → Prog (TpuEff nD τ sig (Elt F) Λ₀ (.scVector ci ji)) α}
    (H : A ⊢ wp (M := MT nD τ sig (HIx 1) (Elt F) ℕ UU ℕ) frame (wpE (defs₀ (F := F)) 𝒱₀ (V d ci ji) none) Set.univ (k ⟨h⟩) Q) : A ⊢ wp (M := MT nD τ sig (HIx 1) (Elt F) ℕ UU ℕ) frame (wpE (defs₀ (F := F)) 𝒱₀ (V d ci ji) none) Set.univ (Prog.lift (TpuEff.assume P dc) >>= k) Q := by
  show A ⊢ wp (M := MT nD τ sig (HIx 1) (Elt F) ℕ UU ℕ) frame (wpE (defs₀ (F := F)) 𝒱₀ (V d ci ji) none) Set.univ (.op (.assume P dc) k) Q
  rw [wp_assume_of _ _ _ _ h]; exact H

theorem bind_step {β : Type} {A : sProp 𝕄} {p : Prog (TpuEff nD τ sig (Elt F) Λ₀ (.scVector ci ji)) β}
    {k : β → Prog (TpuEff nD τ sig (Elt F) Λ₀ (.scVector ci ji)) α}
    (H : A ⊢ wp (M := MT nD τ sig (HIx 1) (Elt F) ℕ UU ℕ) frame (wpE (defs₀ (F := F)) 𝒱₀ (V d ci ji) none) Set.univ p (fun v => wp (M := MT nD τ sig (HIx 1) (Elt F) ℕ UU ℕ) frame (wpE (defs₀ (F := F)) 𝒱₀ (V d ci ji) none) Set.univ (k v) Q)) : A ⊢ wp (M := MT nD τ sig (HIx 1) (Elt F) ℕ UU ℕ) frame (wpE (defs₀ (F := F)) 𝒱₀ (V d ci ji) none) Set.univ (p >>= k) Q := by
  rw [wp_bind]; exact H

theorem pure_step {A : sProp 𝕄} {v : α} (H : A ⊢ Q v) :
    A ⊢ wp (M := MT nD τ sig (HIx 1) (Elt F) ℕ UU ℕ) frame (wpE (defs₀ (F := F)) 𝒱₀ (V d ci ji) none) Set.univ (pure v : Prog (TpuEff nD τ sig (Elt F) Λ₀ (.scVector ci ji)) α) Q :=
by
  rw [wp_pure]
  exact H.trans fupd_intro

theorem gather_step {f : S7168.Idx → BitVec 32} {g c : ℕ} (t : Fin k0_t2_loop.trips) (n : ℕ) (hn : n < 56) {i : IVec S16 32}
    (hi : i = gbase t n) {h : ∀ a x, ((![i] : Fin 1 → IVec S16 32) a x).toNat < S7168.size a} {hl : (sX : Memref sig .scVector .vmem S7168 .i32).view.Loads}
    {k : Vec F S16 .i32 → Prog (TpuEff nD τ sig (Elt F) Λ₀ (.scVector ci ji)) α}
    (H : StC d ci ji f g c ⊢ wp (M := MT nD τ sig (HIx 1) (Elt F) ℕ UU ℕ) frame (wpE (defs₀ (F := F)) 𝒱₀ (V d ci ji) none) Set.univ (k (gat f t.val n)) Q) :
    StC d ci ji f g c ⊢ wp (M := MT nD τ sig (HIx 1) (Elt F) ℕ UU ℕ) frame (wpE (defs₀ (F := F)) 𝒱₀ (V d ci ji) none) Set.univ (SparseCore.vectorLoadIdx sX ![i] h hl >>= k) Q := by
  subst hi
  have e : loadIdx (F := F) (e := .i32) f ![gbase t n] h = gat f t.val n := by
    funext x
    rw [loadIdx, ← rd_self (n := 7168) f]
    show rd 7168 f (gbase t n x).toNat = _
    rw [gbase_toNat t n hn x]; rfl
  unfold StC at H ⊢
  iintro ⟨Hx, Hw⟩
  iapply (SparseCore.wp_vectorLoadIdx (defs := defs₀ (F := F)) 𝒱₀ (V d ci ji) none Set.univ (base := sX) (S := Finset.univ) (q := fullShare)
    (Finset.subset_univ _)) $$ Hx
  iintro Hx
  rw [show ((sX : Memref sig .scVector .vmem S7168 .i32).access (.whole S7168)).read (Elt F) f = f from read_all _ _, e]
  iapply H
  isplitl [Hx]
  · iexact Hx
  · iexact Hw

theorem scatter_step {f : S7168.Idx → BitVec 32} (t : Fin k0_t2_loop.trips) (c : ℕ) (hc : c < 8) {i v : IVec S16 32}
    (hi : i = sbase t c) (hv : ∀ x, v x = codeAt f (lane x * 56 + t.val * 896) c)
    {h : ∀ a x, ((![i] : Fin 1 → IVec S16 32) a x).toNat < S1024.size a}
    {hs : ((sW : Memref sig .scVector .vmem S1024 .i32).access (.whole S1024)).Stores Finset.univ}
    {k : PUnit → Prog (TpuEff nD τ sig (Elt F) Λ₀ (.scVector ci ji)) α}
    (H : StC d ci ji f t.val (c + 1) ⊢ wp (M := MT nD τ sig (HIx 1) (Elt F) ℕ UU ℕ) frame (wpE (defs₀ (F := F)) 𝒱₀ (V d ci ji) none) Set.univ (k ⟨⟩) Q) :
    StC d ci ji f t.val c ⊢ wp (M := MT nD τ sig (HIx 1) (Elt F) ℕ UU ℕ) frame (wpE (defs₀ (F := F)) 𝒱₀ (V d ci ji) none) Set.univ (SparseCore.vectorStoreIdx (e := .i32) sW ![i] v (fun _ => 1#1) false h hs >>= k) Q := by
  subst hi
  unfold StC at H ⊢
  iintro ⟨Hx, %w, %hw, Hw⟩
  ihave Hw := (Entails.of_eq (show wPt d ci ji w = iprop(((sW : Memref sig .scVector .vmem S1024 .i32).access (.whole S1024)).loc (V d ci ji)
    ↦[((sW : Memref sig .scVector .vmem S1024 .i32).access (.whole S1024)).set]{fullShare} w) from by rw [set_sW])) $$ Hw
  iapply (SparseCore.wp_vectorStoreIdx (defs := defs₀ (F := F)) 𝒱₀ (V d ci ji) none Set.univ (base := sW)) $$ Hw
  iintro Hw
  iapply H
  isplitl [Hx]
  · iexact Hx
  · iexists _; isplitr [Hw]
    · ipureintro; exact CodesTo_step (F := F) t c hc hv h hw
    · rw [read_sW, write_sW, set_sW]; iexact Hw

/-! ## One row's sums -/

/-- The block's result is in place below entry `n`. -/
def OutTo (T : S65536.Idx → BitVec 32) (w : S1024.Idx → BitVec 32) (n : ℕ) (o : S16000.Idx → F .f32) : Prop :=
  ∀ e, e < n → rd 16000 o e = outEl T (fun c => rd 1024 w (8 * (e / 128) + c)) (e % 128 / 16) (e % 16)

def StR (R : sProp 𝕄) (T : S65536.Idx → BitVec 32) (w : S1024.Idx → BitVec 32) (n : ℕ) : sProp 𝕄 :=
  iprop(R ∗ tPt d ci ji T ∗ wPt d ci ji w ∗ ∃ o, ⌜OutTo T w n o⌝ ∗ oPt d ci ji o)

abbrev woff (w c : BitVec 32) : Fin 1 → Nat := ![(Scalar.indexCast (Scalar.addi (Scalar.muli w 64#32) c) : BitVec 32).toNat]

omit [FloatOps F] in
theorem woff_eq (w : BitVec 32) (h : w.toNat < 1024) (c : ℕ) (hc : c < 64) : woff w (BitVec.ofNat 32 c) 0 = w.toNat * 64 + c := by
  show (w * 64#32 + BitVec.ofNat 32 c).toNat = _
  simp only [BitVec.toNat_add, BitVec.toNat_mul, BitVec.toNat_ofNat]
  omega

omit [FloatOps F] in
theorem word_ok (w : BitVec 32) (h : w.toNat < 1024) :
    ∀ (r : Fin 4), ∀ a, woff w (BitVec.ofNat 32 (16 * r.val)) a + S16.size a ≤ S65536.size a := by
  intro r a
  obtain rfl : a = 0 := Subsingleton.elim _ _
  have := r.isLt
  rw [woff_eq w h (16 * r.val) (by omega)]
  show w.toNat * 64 + 16 * r.val + 16 ≤ 65536
  omega

/-- Sixteen entries from entry `n` on. -/
def run16 (N : ℕ) [NeZero N] {β : Type} (f : (⟨1, ![N]⟩ : Shape).Idx → β) (n : ℕ) : S16.Idx → β := fun x => rd N f (n + lane x)

theorem words_step {R : sProp 𝕄} {T : S65536.Idx → BitVec 32} {w : S1024.Idx → BitVec 32} {m : ℕ} (n : ℕ)
    {off : Fin 1 → ℕ} {inb : ∀ a, off a + S16.size a ≤ S1024.size a} (ho : off 0 = n)
    {hl : (sW : Memref sig .scVector .vmem S1024 .i32).view.LoadsAt (Rect.unit (s := S1024) off S16.size inb).toLoadRect}
    {k : Vec F S16 .i32 → Prog (TpuEff nD τ sig (Elt F) Λ₀ (.scVector ci ji)) α}
    (H : StR d ci ji R T w m ⊢ wp (M := MT nD τ sig (HIx 1) (Elt F) ℕ UU ℕ) frame (wpE (defs₀ (F := F)) 𝒱₀ (V d ci ji) none) Set.univ (k (run16 1024 w n)) Q) :
    StR d ci ji R T w m ⊢ wp (M := MT nD τ sig (HIx 1) (Elt F) ℕ UU ℕ) frame (wpE (defs₀ (F := F)) 𝒱₀ (V d ci ji) none) Set.univ (Prog.lift (.load sW (Rect.unit (s := S1024) off S16.size inb).toLoadRect hl) >>= k) Q := by
  have e : (sW : Memref sig .scVector .vmem S1024 .i32).view.readAt (Elt F) (Rect.unit (s := S1024) off S16.size inb).toLoadRect w = run16 1024 w n := by
    funext x
    show w ((Rect.unit (s := S1024) off S16.size inb).toLoadRect.idx x) = rd 1024 w (n + lane x)
    rw [← rd_self w]
    congr 1
    show off 0 + 1 * (x 0).val = n + (x 0).val
    rw [ho, Nat.one_mul]
  unfold StR at H ⊢
  iintro ⟨HR, Ht, Hw, Ho⟩
  iapply (wp_load (defs := defs₀ (F := F)) 𝒱₀ (V d ci ji) none Set.univ (m := sW) (S := Finset.univ) (q := fullShare) (Finset.subset_univ _)) $$ Hw
  iintro Hw
  rw [e]
  iapply H
  isplitl [HR]; · iexact HR
  isplitl [Ht]; · iexact Ht
  isplitl [Hw]; · iexact Hw
  iexact Ho

theorem table_step {R : sProp 𝕄} {T : S65536.Idx → BitVec 32} {w : S1024.Idx → BitVec 32} {m : ℕ} (n : ℕ)
    {off : Fin 1 → ℕ} {inb : ∀ a, off a + S16.size a ≤ S65536.size a} (ho : off 0 = n)
    {hl : (sT : Memref sig .scVector .vmem S65536 .i32).view.LoadsAt (Rect.unit (s := S65536) off S16.size inb).toLoadRect}
    {k : Vec F S16 .i32 → Prog (TpuEff nD τ sig (Elt F) Λ₀ (.scVector ci ji)) α}
    (H : StR d ci ji R T w m ⊢ wp (M := MT nD τ sig (HIx 1) (Elt F) ℕ UU ℕ) frame (wpE (defs₀ (F := F)) 𝒱₀ (V d ci ji) none) Set.univ (k (run16 65536 T n)) Q) :
    StR d ci ji R T w m ⊢ wp (M := MT nD τ sig (HIx 1) (Elt F) ℕ UU ℕ) frame (wpE (defs₀ (F := F)) 𝒱₀ (V d ci ji) none) Set.univ (Prog.lift (.load sT (Rect.unit (s := S65536) off S16.size inb).toLoadRect hl) >>= k) Q := by
  have e : (sT : Memref sig .scVector .vmem S65536 .i32).view.readAt (Elt F) (Rect.unit (s := S65536) off S16.size inb).toLoadRect T = run16 65536 T n := by
    funext x
    show T ((Rect.unit (s := S65536) off S16.size inb).toLoadRect.idx x) = rd 65536 T (n + lane x)
    rw [← rd_self T]
    congr 1
    show off 0 + 1 * (x 0).val = n + (x 0).val
    rw [ho, Nat.one_mul]
  unfold StR at H ⊢
  iintro ⟨HR, Ht, Hw, Ho⟩
  iapply (wp_load (defs := defs₀ (F := F)) 𝒱₀ (V d ci ji) none Set.univ (m := sT) (S := Finset.univ) (q := fullShare) (Finset.subset_univ _)) $$ Ht
  iintro Ht
  rw [e]
  iapply H
  isplitl [HR]; · iexact HR
  isplitl [Ht]; · iexact Ht
  isplitl [Hw]; · iexact Hw
  iexact Ho

theorem outEl_congr (T : S65536.Idx → BitVec 32) {u v : ℕ → BitVec 32} (h : ∀ c, c < 8 → u c = v c) (q l : ℕ) :
    (outEl T u q l : F .f32) = outEl T v q l := by
  unfold outEl rowEl
  dsimp only
  rw [h 0 (by decide), h 1 (by decide), h 2 (by decide), h 3 (by decide), h 4 (by decide), h 5 (by decide), h 6 (by decide), h 7 (by decide)]

theorem OutTo_step {T : S65536.Idx → BitVec 32} {w : S1024.Idx → BitVec 32} {o : S16000.Idx → F .f32} (r q : ℕ) (hq : q < 8) (hr : r < 125)
    {n n' : ℕ} (hn : n = 128 * r + 16 * q) (hn' : n' = n + 16)
    {off : Fin 1 → ℕ} {inb : ∀ a, off a + S16.size a ≤ S16000.size a} (ho : off 0 = n) (u : ℕ → BitVec 32)
    (hu : ∀ c, c < 8 → u c = rd 1024 w (8 * r + c)) {v : S16.Idx → F .f32} (hv : ∀ x, v x = outEl T u q (lane x)) (h : OutTo T w n o) :
    OutTo T w n' (updateSlice (s := S16000) (u := S16) o v off ⟨rfl, inb⟩) := by
  subst hn'
  intro e he
  have he' : e < 16000 := by omega
  have hj : ((ix 16000 e) 0).val = e := ix_val he'
  unfold rd updateSlice
  split
  · next hin =>
    have h0 := hin 0
    rw [hj, ho] at h0
    have h1 : n ≤ e := h0.1
    rw [hv, outEl_congr T hu]
    have hl : lane (fun b : Fin 1 => (⟨((ix 16000 e) (b.cast rfl)).val - off (b.cast rfl), by
        have := hin (b.cast rfl); exact (Nat.sub_lt_left_of_lt_add this.1 this.2)⟩ : Fin (S16.size b))) = e - n := by
      show ((ix 16000 e) 0).val - off 0 = e - n
      rw [hj, ho]
    refine (congrArg (outEl T _ q) hl).trans ?_
    have a1 : r = e / 128 := by omega
    have a2 : q = e % 128 / 16 := by omega
    have a3 : e - n = e % 16 := by omega
    rw [← a1, ← a2, ← a3]
    rfl
  · next hin =>
    refine h e ?_
    by_contra hge
    refine hin fun a => ?_
    obtain rfl : a = 0 := Subsingleton.elim _ _
    rw [hj, ho]
    exact ⟨by omega, by show e < n + 16; omega⟩

theorem out_step {R : sProp 𝕄} {T : S65536.Idx → BitVec 32} {w : S1024.Idx → BitVec 32} (r q : ℕ) (hq : q < 8) (hr : r < 125)
    {n : ℕ} (n' : ℕ) (hn : n = 128 * r + 16 * q) (hn' : n' = n + 16)
    {off : Fin 1 → ℕ} {inb : ∀ a, off a + S16.size a ≤ S16000.size a} (ho : off 0 = 128 * r + 16 * q) (u : ℕ → BitVec 32)
    (hu : ∀ c, c < 8 → u c = rd 1024 w (8 * r + c)) {v : S16.Idx → F .f32} (hv : ∀ x, v x = outEl T u q (lane x))
    {hl : (sO : Memref sig .scVector .vmem S16000 .f32).view.LoadsAt (Rect.unit (s := S16000) off S16.size inb).toLoadRect}
    {hx : ((sO : Memref sig .scVector .vmem S16000 .f32).access (Rect.unit (s := S16000) off S16.size inb)).Stores Finset.univ}
    {hm : (Finset.univ : Finset (Rect.unit (s := S16000) off S16.size inb).shape.Idx) = Finset.univ ∨ ∀ a, (Rect.unit (s := S16000) off S16.size inb).stride a = 1}
    {k : PUnit → Prog (TpuEff nD τ sig (Elt F) Λ₀ (.scVector ci ji)) α}
    (H : StR d ci ji R T w n' ⊢ wp (M := MT nD τ sig (HIx 1) (Elt F) ℕ UU ℕ) frame (wpE (defs₀ (F := F)) 𝒱₀ (V d ci ji) none) Set.univ (k ⟨⟩) Q) :
    StR d ci ji R T w n ⊢ wp (M := MT nD τ sig (HIx 1) (Elt F) ℕ UU ℕ) frame (wpE (defs₀ (F := F)) 𝒱₀ (V d ci ji) none) Set.univ (Prog.lift (.load sO (Rect.unit (s := S16000) off S16.size inb).toLoadRect hl) >>= fun _ =>
      Prog.lift (.store sO (Rect.unit (s := S16000) off S16.size inb) v Finset.univ hx hm) >>= k) Q := by
  unfold StR at H ⊢
  iintro ⟨HR, Ht, Hw, %o, %hO, Ho⟩
  iapply (wp_load (defs := defs₀ (F := F)) 𝒱₀ (V d ci ji) none Set.univ (m := sO) (S := Finset.univ) (q := fullShare) (Finset.subset_univ _)) $$ Ho
  iintro Ho
  iapply (wp_store (defs := defs₀ (F := F)) 𝒱₀ (V d ci ji) none Set.univ (m := sO) (r := Rect.unit (s := S16000) off S16.size inb) (f := o) (S := Finset.univ) (Finset.subset_univ _)) $$ Ho
  iintro Ho
  iapply H
  isplitl [HR]; · iexact HR
  isplitl [Ht]; · iexact Ht
  isplitl [Hw]; · iexact Hw
  iexists (updateSlice (s := S16000) (u := S16) o v off ⟨rfl, inb⟩)
  isplitr [Ho]
  · ipureintro; exact OutTo_step (inb := inb) r q hq hr hn hn' (ho.trans hn.symm) u hu hv hO
  · iapply (Entails.of_eq (congrArg (fun z : S16000.Idx → F .f32 => oPt d ci ji z)
      (View.write_whole_slice_unit (Val := Elt F) cc0_scratch3 off S16.size inb o v))) $$ Ho

end Parts

end Cert.Proof.Lookup
-- ==== Proof.Codes.lean ====
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

set_option maxHeartbeats 8000000 in
/-- One trip of the code loop: the codes of one group of sixteen rows. -/
theorem codes_trip (d : Dev nD) (L : grid0.Coords) (f : S7168.Idx → BitVec 32) (v2 : BitVec 32) (k1 : Fin k0_t1_loop.trips) (k : Fin k0_t2_loop.trips) :
    StC d (cV L) (jV L) f k.val 0 ⊢ wp (M := MT nD τ sig (HIx 1) (Elt F) ℕ UU ℕ) frame (wpE (defs₀ (F := F)) 𝒱₀ (V d (cV L) (jV L)) none) Set.univ
      (k0_t2_body L xV (Memref.isWhole_whole _) tV (Memref.isWhole_whole _) oV (Memref.isWhole_whole _) sX (Memref.isWhole_whole _)
        sT (Memref.isWhole_whole _) sW (Memref.isWhole_whole _) sO (Memref.isWhole_whole _) cc0_scoped0 cc0_scoped1 cc0_scoped2
        v2 k0_pay1 k0_pay2 4294901760#32 0#32 1#32 k1 k ())
      fun _ => StC d (cV L) (jV L) f (k.val + 1) 0 := by
  unfold k0_t2_body
  dsimp only
  refine bind_step d _ _ ?_
  rw [k0_part1_eq_skeleton]; unfold k0_part1_skel
  refine assume_step d _ _ (gbase_inb k 0 (by decide)) ?_
  refine gather_step d _ _ k 0 (by decide) rfl ?_
  refine assume_step d _ _ (gbase_inb k 1 (by decide)) ?_
  refine gather_step d _ _ k 1 (by decide) rfl ?_
  refine assume_step d _ _ (gbase_inb k 2 (by decide)) ?_
  refine gather_step d _ _ k 2 (by decide) rfl ?_
  refine assume_step d _ _ (gbase_inb k 3 (by decide)) ?_
  refine gather_step d _ _ k 3 (by decide) rfl ?_
  refine assume_step d _ _ (gbase_inb k 4 (by decide)) ?_
  refine gather_step d _ _ k 4 (by decide) rfl ?_
  refine assume_step d _ _ (gbase_inb k 5 (by decide)) ?_
  refine gather_step d _ _ k 5 (by decide) rfl ?_
  refine pure_step d _ _ ?_
  dsimp only
  refine bind_step d _ _ ?_
  rw [k0_part2_eq_skeleton]; unfold k0_part2_skel
  refine assume_step d _ _ (gbase_inb k 6 (by decide)) ?_
  refine gather_step d _ _ k 6 (by decide) rfl ?_
  refine assume_step d _ _ (sbase_inb k 0 (by decide)) ?_
  refine scatter_step d _ _ k 0 (by decide) rfl (fun _ => rfl) ?_
  refine assume_step d _ _ (gbase_inb k 7 (by decide)) ?_
  refine gather_step d _ _ k 7 (by decide) rfl ?_
  refine assume_step d _ _ (gbase_inb k 8 (by decide)) ?_
  refine gather_step d _ _ k 8 (by decide) rfl ?_
  refine assume_step d _ _ (gbase_inb k 9 (by decide)) ?_
  refine gather_step d _ _ k 9 (by decide) rfl ?_
  refine assume_step d _ _ (gbase_inb k 10 (by decide)) ?_
  refine gather_step d _ _ k 10 (by decide) rfl ?_
  refine assume_step d _ _ (gbase_inb k 11 (by decide)) ?_
  refine gather_step d _ _ k 11 (by decide) rfl ?_
  refine pure_step d _ _ ?_
  dsimp only
  refine bind_step d _ _ ?_
  rw [k0_part3_eq_skeleton]; unfold k0_part3_skel
  refine assume_step d _ _ (gbase_inb k 12 (by decide)) ?_
  refine gather_step d _ _ k 12 (by decide) rfl ?_
  refine assume_step d _ _ (gbase_inb k 13 (by decide)) ?_
  refine gather_step d _ _ k 13 (by decide) rfl ?_
  refine assume_step d _ _ (sbase_inb k 1 (by decide)) ?_
  refine scatter_step d _ _ k 1 (by decide) rfl (fun _ => rfl) ?_
  refine assume_step d _ _ (gbase_inb k 14 (by decide)) ?_
  refine gather_step d _ _ k 14 (by decide) rfl ?_
  refine assume_step d _ _ (gbase_inb k 15 (by decide)) ?_
  refine gather_step d _ _ k 15 (by decide) rfl ?_
  refine assume_step d _ _ (gbase_inb k 16 (by decide)) ?_
  refine gather_step d _ _ k 16 (by decide) rfl ?_
  refine assume_step d _ _ (gbase_inb k 17 (by decide)) ?_
  refine gather_step d _ _ k 17 (by decide) rfl ?_
  refine assume_step d _ _ (gbase_inb k 18 (by decide)) ?_
  refine gather_step d _ _ k 18 (by decide) rfl ?_
  refine pure_step d _ _ ?_
  dsimp only
  refine bind_step d _ _ ?_
  rw [k0_part4_eq_skeleton]; unfold k0_part4_skel
  refine assume_step d _ _ (gbase_inb k 19 (by decide)) ?_
  refine gather_step d _ _ k 19 (by decide) rfl ?_
  refine assume_step d _ _ (gbase_inb k 20 (by decide)) ?_
  refine gather_step d _ _ k 20 (by decide) rfl ?_
  refine assume_step d _ _ (sbase_inb k 2 (by decide)) ?_
  refine scatter_step d _ _ k 2 (by decide) rfl (fun _ => rfl) ?_
  refine assume_step d _ _ (gbase_inb k 21 (by decide)) ?_
  refine gather_step d _ _ k 21 (by decide) rfl ?_
  refine assume_step d _ _ (gbase_inb k 22 (by decide)) ?_
  refine gather_step d _ _ k 22 (by decide) rfl ?_
  refine assume_step d _ _ (gbase_inb k 23 (by decide)) ?_
  refine gather_step d _ _ k 23 (by decide) rfl ?_
  refine assume_step d _ _ (gbase_inb k 24 (by decide)) ?_
  refine gather_step d _ _ k 24 (by decide) rfl ?_
  refine pure_step d _ _ ?_
  dsimp only
  refine bind_step d _ _ ?_
  rw [k0_part5_eq_skeleton]; unfold k0_part5_skel
  refine assume_step d _ _ (gbase_inb k 25 (by decide)) ?_
  refine gather_step d _ _ k 25 (by decide) rfl ?_
  refine assume_step d _ _ (gbase_inb k 26 (by decide)) ?_
  refine gather_step d _ _ k 26 (by decide) rfl ?_
  refine assume_step d _ _ (gbase_inb k 27 (by decide)) ?_
  refine gather_step d _ _ k 27 (by decide) rfl ?_
  refine assume_step d _ _ (sbase_inb k 3 (by decide)) ?_
  refine scatter_step d _ _ k 3 (by decide) rfl (fun _ => rfl) ?_
  refine assume_step d _ _ (gbase_inb k 28 (by decide)) ?_
  refine gather_step d _ _ k 28 (by decide) rfl ?_
  refine assume_step d _ _ (gbase_inb k 29 (by decide)) ?_
  refine gather_step d _ _ k 29 (by decide) rfl ?_
  refine assume_step d _ _ (gbase_inb k 30 (by decide)) ?_
  refine gather_step d _ _ k 30 (by decide) rfl ?_
  refine pure_step d _ _ ?_
  dsimp only
  refine bind_step d _ _ ?_
  rw [k0_part6_eq_skeleton]; unfold k0_part6_skel
  refine assume_step d _ _ (gbase_inb k 31 (by decide)) ?_
  refine gather_step d _ _ k 31 (by decide) rfl ?_
  refine assume_step d _ _ (gbase_inb k 32 (by decide)) ?_
  refine gather_step d _ _ k 32 (by decide) rfl ?_
  refine assume_step d _ _ (gbase_inb k 33 (by decide)) ?_
  refine gather_step d _ _ k 33 (by decide) rfl ?_
  refine assume_step d _ _ (gbase_inb k 34 (by decide)) ?_
  refine gather_step d _ _ k 34 (by decide) rfl ?_
  refine assume_step d _ _ (sbase_inb k 4 (by decide)) ?_
  refine scatter_step d _ _ k 4 (by decide) rfl (fun _ => rfl) ?_
  refine assume_step d _ _ (gbase_inb k 35 (by decide)) ?_
  refine gather_step d _ _ k 35 (by decide) rfl ?_
  refine assume_step d _ _ (gbase_inb k 36 (by decide)) ?_
  refine gather_step d _ _ k 36 (by decide) rfl ?_
  refine pure_step d _ _ ?_
  dsimp only
  refine bind_step d _ _ ?_
  rw [k0_part7_eq_skeleton]; unfold k0_part7_skel
  refine assume_step d _ _ (gbase_inb k 37 (by decide)) ?_
  refine gather_step d _ _ k 37 (by decide) rfl ?_
  refine assume_step d _ _ (gbase_inb k 38 (by decide)) ?_
  refine gather_step d _ _ k 38 (by decide) rfl ?_
  refine assume_step d _ _ (gbase_inb k 39 (by decide)) ?_
  refine gather_step d _ _ k 39 (by decide) rfl ?_
  refine assume_step d _ _ (gbase_inb k 40 (by decide)) ?_
  refine gather_step d _ _ k 40 (by decide) rfl ?_
  refine assume_step d _ _ (gbase_inb k 41 (by decide)) ?_
  refine gather_step d _ _ k 41 (by decide) rfl ?_
  refine assume_step d _ _ (sbase_inb k 5 (by decide)) ?_
  refine scatter_step d _ _ k 5 (by decide) rfl (fun _ => rfl) ?_
  refine assume_step d _ _ (gbase_inb k 42 (by decide)) ?_
  refine gather_step d _ _ k 42 (by decide) rfl ?_
  refine assume_step d _ _ (gbase_inb k 43 (by decide)) ?_
  refine pure_step d _ _ ?_
  dsimp only
  refine bind_step d _ _ ?_
  rw [k0_part8_eq_skeleton]; unfold k0_part8_skel
  refine gather_step d _ _ k 43 (by decide) rfl ?_
  refine assume_step d _ _ (gbase_inb k 44 (by decide)) ?_
  refine gather_step d _ _ k 44 (by decide) rfl ?_
  refine assume_step d _ _ (gbase_inb k 45 (by decide)) ?_
  refine gather_step d _ _ k 45 (by decide) rfl ?_
  refine assume_step d _ _ (gbase_inb k 46 (by decide)) ?_
  refine gather_step d _ _ k 46 (by decide) rfl ?_
  refine assume_step d _ _ (gbase_inb k 47 (by decide)) ?_
  refine gather_step d _ _ k 47 (by decide) rfl ?_
  refine assume_step d _ _ (gbase_inb k 48 (by decide)) ?_
  refine gather_step d _ _ k 48 (by decide) rfl ?_
  refine assume_step d _ _ (sbase_inb k 6 (by decide)) ?_
  refine scatter_step d _ _ k 6 (by decide) rfl (fun _ => rfl) ?_
  refine pure_step d _ _ ?_
  dsimp only
  refine bind_step d _ _ ?_
  rw [k0_part9_eq_skeleton]; unfold k0_part9_skel
  refine assume_step d _ _ (gbase_inb k 49 (by decide)) ?_
  refine gather_step d _ _ k 49 (by decide) rfl ?_
  refine assume_step d _ _ (gbase_inb k 50 (by decide)) ?_
  refine gather_step d _ _ k 50 (by decide) rfl ?_
  refine assume_step d _ _ (gbase_inb k 51 (by decide)) ?_
  refine gather_step d _ _ k 51 (by decide) rfl ?_
  refine assume_step d _ _ (gbase_inb k 52 (by decide)) ?_
  refine gather_step d _ _ k 52 (by decide) rfl ?_
  refine assume_step d _ _ (gbase_inb k 53 (by decide)) ?_
  refine gather_step d _ _ k 53 (by decide) rfl ?_
  refine assume_step d _ _ (gbase_inb k 54 (by decide)) ?_
  refine gather_step d _ _ k 54 (by decide) rfl ?_
  refine assume_step d _ _ (gbase_inb k 55 (by decide)) ?_
  refine gather_step d _ _ k 55 (by decide) rfl ?_
  refine pure_step d _ _ ?_
  dsimp only
  refine assume_step d _ _ (sbase_inb k 7 (by decide)) ?_
  refine scatter_step d _ _ k 7 (by decide) rfl (fun _ => rfl) ?_
  refine pure_step d _ _ ?_
  unfold StC
  iintro ⟨Hx, %w, %hw, Hw⟩
  isplitl [Hx]
  · iexact Hx
  · iexists w; isplitr [Hw]
    · ipureintro; exact CodesTo_next hw
    · iexact Hw

end Cert.Proof.Lookup
-- ==== Proof.Rows.lean ====
module

public import proofs.«01_k».proof.Proof.Codes

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 8000000 in
/-- One trip of the row loop: rows `2 * k` and `2 * k + 1` of the block. -/
theorem rows_trip (d : Dev nD) (L : grid0.Coords) (R : sProp (MT nD τ sig (HIx 1) (Elt F) ℕ UU ℕ)) (tb : S65536.Idx → BitVec 32) (w : S1024.Idx → BitVec 32)
    (hw : ∀ e, e < 1000 → (rd 1024 w e).toNat < 1024) (v2 : BitVec 32) (v5 v7 : IVec S16 32) (k1 : Fin k0_t1_loop.trips) (k : Fin k0_t3_loop.trips) :
    StR d (cV L) (jV L) R tb w (256 * k.val) ⊢ wp (M := MT nD τ sig (HIx 1) (Elt F) ℕ UU ℕ) frame (wpE (defs₀ (F := F)) 𝒱₀ (V d (cV L) (jV L)) none) Set.univ
      (k0_t3_body L xV (Memref.isWhole_whole _) tV (Memref.isWhole_whole _) oV (Memref.isWhole_whole _) sX (Memref.isWhole_whole _)
        sT (Memref.isWhole_whole _) sW (Memref.isWhole_whole _) sO (Memref.isWhole_whole _) cc0_scoped0 cc0_scoped1 cc0_scoped2
        v2 v5 v7 4294901760#32 0#32 1#32 k1 k ())
      fun _ => StR d (cV L) (jV L) R tb w (256 * (k.val + 1)) := by
  have hk : k.val < 62 := k.isLt
  have h0 : (rd 1024 w (16 * k.val + 0)).toNat < 1024 := hw _ (by omega)
  have h1 : (rd 1024 w (16 * k.val + 1)).toNat < 1024 := hw _ (by omega)
  have h2 : (rd 1024 w (16 * k.val + 2)).toNat < 1024 := hw _ (by omega)
  have h3 : (rd 1024 w (16 * k.val + 3)).toNat < 1024 := hw _ (by omega)
  have h4 : (rd 1024 w (16 * k.val + 4)).toNat < 1024 := hw _ (by omega)
  have h5 : (rd 1024 w (16 * k.val + 5)).toNat < 1024 := hw _ (by omega)
  have h6 : (rd 1024 w (16 * k.val + 6)).toNat < 1024 := hw _ (by omega)
  have h7 : (rd 1024 w (16 * k.val + 7)).toNat < 1024 := hw _ (by omega)
  have h8 : (rd 1024 w (16 * k.val + 8)).toNat < 1024 := hw _ (by omega)
  have h9 : (rd 1024 w (16 * k.val + 9)).toNat < 1024 := hw _ (by omega)
  have h10 : (rd 1024 w (16 * k.val + 10)).toNat < 1024 := hw _ (by omega)
  have h11 : (rd 1024 w (16 * k.val + 11)).toNat < 1024 := hw _ (by omega)
  have h12 : (rd 1024 w (16 * k.val + 12)).toNat < 1024 := hw _ (by omega)
  have h13 : (rd 1024 w (16 * k.val + 13)).toNat < 1024 := hw _ (by omega)
  have h14 : (rd 1024 w (16 * k.val + 14)).toNat < 1024 := hw _ (by omega)
  have h15 : (rd 1024 w (16 * k.val + 15)).toNat < 1024 := hw _ (by omega)
  unfold k0_t3_body
  dsimp only
  refine bind_step d _ _ ?_
  rw [k0_part10_eq_skeleton]; unfold k0_part10_skel
  dsimp only
  refine words_step d _ _ (16 * k.val) (congrFun (k0_off2_eq k) 0) ?_
  refine assume_step d _ _ (word_ok (rd 1024 w (16 * k.val + 0)) (h0)) ?_
  refine table_step d _ _ ((rd 1024 w (16 * k.val + 0)).toNat * 64 + 0) (woff_eq (rd 1024 w (16 * k.val + 0)) h0 0 (by decide)) ?_
  refine table_step d _ _ ((rd 1024 w (16 * k.val + 0)).toNat * 64 + 16) (woff_eq (rd 1024 w (16 * k.val + 0)) h0 16 (by decide)) ?_
  refine table_step d _ _ ((rd 1024 w (16 * k.val + 0)).toNat * 64 + 32) (woff_eq (rd 1024 w (16 * k.val + 0)) h0 32 (by decide)) ?_
  refine table_step d _ _ ((rd 1024 w (16 * k.val + 0)).toNat * 64 + 48) (woff_eq (rd 1024 w (16 * k.val + 0)) h0 48 (by decide)) ?_
  refine assume_step d _ _ (word_ok (rd 1024 w (16 * k.val + 1)) (h1)) ?_
  refine pure_step d _ _ ?_
  dsimp only
  refine bind_step d _ _ ?_
  rw [k0_part11_eq_skeleton]; unfold k0_part11_skel
  refine table_step d _ _ ((rd 1024 w (16 * k.val + 1)).toNat * 64 + 0) (woff_eq (rd 1024 w (16 * k.val + 1)) h1 0 (by decide)) ?_
  refine table_step d _ _ ((rd 1024 w (16 * k.val + 1)).toNat * 64 + 16) (woff_eq (rd 1024 w (16 * k.val + 1)) h1 16 (by decide)) ?_
  refine table_step d _ _ ((rd 1024 w (16 * k.val + 1)).toNat * 64 + 32) (woff_eq (rd 1024 w (16 * k.val + 1)) h1 32 (by decide)) ?_
  refine table_step d _ _ ((rd 1024 w (16 * k.val + 1)).toNat * 64 + 48) (woff_eq (rd 1024 w (16 * k.val + 1)) h1 48 (by decide)) ?_
  refine assume_step d _ _ (word_ok (rd 1024 w (16 * k.val + 2)) (h2)) ?_
  refine pure_step d _ _ ?_
  dsimp only
  refine bind_step d _ _ ?_
  rw [k0_part12_eq_skeleton]; unfold k0_part12_skel
  refine table_step d _ _ ((rd 1024 w (16 * k.val + 2)).toNat * 64 + 0) (woff_eq (rd 1024 w (16 * k.val + 2)) h2 0 (by decide)) ?_
  refine table_step d _ _ ((rd 1024 w (16 * k.val + 2)).toNat * 64 + 16) (woff_eq (rd 1024 w (16 * k.val + 2)) h2 16 (by decide)) ?_
  refine table_step d _ _ ((rd 1024 w (16 * k.val + 2)).toNat * 64 + 32) (woff_eq (rd 1024 w (16 * k.val + 2)) h2 32 (by decide)) ?_
  refine table_step d _ _ ((rd 1024 w (16 * k.val + 2)).toNat * 64 + 48) (woff_eq (rd 1024 w (16 * k.val + 2)) h2 48 (by decide)) ?_
  refine assume_step d _ _ (word_ok (rd 1024 w (16 * k.val + 3)) (h3)) ?_
  refine table_step d _ _ ((rd 1024 w (16 * k.val + 3)).toNat * 64 + 0) (woff_eq (rd 1024 w (16 * k.val + 3)) h3 0 (by decide)) ?_
  refine pure_step d _ _ ?_
  dsimp only
  refine bind_step d _ _ ?_
  rw [k0_part13_eq_skeleton]; unfold k0_part13_skel
  refine table_step d _ _ ((rd 1024 w (16 * k.val + 3)).toNat * 64 + 16) (woff_eq (rd 1024 w (16 * k.val + 3)) h3 16 (by decide)) ?_
  refine table_step d _ _ ((rd 1024 w (16 * k.val + 3)).toNat * 64 + 32) (woff_eq (rd 1024 w (16 * k.val + 3)) h3 32 (by decide)) ?_
  refine table_step d _ _ ((rd 1024 w (16 * k.val + 3)).toNat * 64 + 48) (woff_eq (rd 1024 w (16 * k.val + 3)) h3 48 (by decide)) ?_
  refine assume_step d _ _ (word_ok (rd 1024 w (16 * k.val + 4)) (h4)) ?_
  refine table_step d _ _ ((rd 1024 w (16 * k.val + 4)).toNat * 64 + 0) (woff_eq (rd 1024 w (16 * k.val + 4)) h4 0 (by decide)) ?_
  refine pure_step d _ _ ?_
  dsimp only
  refine bind_step d _ _ ?_
  rw [k0_part14_eq_skeleton]; unfold k0_part14_skel
  refine table_step d _ _ ((rd 1024 w (16 * k.val + 4)).toNat * 64 + 16) (woff_eq (rd 1024 w (16 * k.val + 4)) h4 16 (by decide)) ?_
  refine table_step d _ _ ((rd 1024 w (16 * k.val + 4)).toNat * 64 + 32) (woff_eq (rd 1024 w (16 * k.val + 4)) h4 32 (by decide)) ?_
  refine table_step d _ _ ((rd 1024 w (16 * k.val + 4)).toNat * 64 + 48) (woff_eq (rd 1024 w (16 * k.val + 4)) h4 48 (by decide)) ?_
  refine assume_step d _ _ (word_ok (rd 1024 w (16 * k.val + 5)) (h5)) ?_
  refine table_step d _ _ ((rd 1024 w (16 * k.val + 5)).toNat * 64 + 0) (woff_eq (rd 1024 w (16 * k.val + 5)) h5 0 (by decide)) ?_
  refine pure_step d _ _ ?_
  dsimp only
  refine bind_step d _ _ ?_
  rw [k0_part15_eq_skeleton]; unfold k0_part15_skel
  refine table_step d _ _ ((rd 1024 w (16 * k.val + 5)).toNat * 64 + 16) (woff_eq (rd 1024 w (16 * k.val + 5)) h5 16 (by decide)) ?_
  refine table_step d _ _ ((rd 1024 w (16 * k.val + 5)).toNat * 64 + 32) (woff_eq (rd 1024 w (16 * k.val + 5)) h5 32 (by decide)) ?_
  refine table_step d _ _ ((rd 1024 w (16 * k.val + 5)).toNat * 64 + 48) (woff_eq (rd 1024 w (16 * k.val + 5)) h5 48 (by decide)) ?_
  refine assume_step d _ _ (word_ok (rd 1024 w (16 * k.val + 6)) (h6)) ?_
  refine table_step d _ _ ((rd 1024 w (16 * k.val + 6)).toNat * 64 + 0) (woff_eq (rd 1024 w (16 * k.val + 6)) h6 0 (by decide)) ?_
  refine pure_step d _ _ ?_
  dsimp only
  refine bind_step d _ _ ?_
  rw [k0_part16_eq_skeleton]; unfold k0_part16_skel
  refine table_step d _ _ ((rd 1024 w (16 * k.val + 6)).toNat * 64 + 16) (woff_eq (rd 1024 w (16 * k.val + 6)) h6 16 (by decide)) ?_
  refine table_step d _ _ ((rd 1024 w (16 * k.val + 6)).toNat * 64 + 32) (woff_eq (rd 1024 w (16 * k.val + 6)) h6 32 (by decide)) ?_
  refine table_step d _ _ ((rd 1024 w (16 * k.val + 6)).toNat * 64 + 48) (woff_eq (rd 1024 w (16 * k.val + 6)) h6 48 (by decide)) ?_
  refine assume_step d _ _ (word_ok (rd 1024 w (16 * k.val + 7)) (h7)) ?_
  refine table_step d _ _ ((rd 1024 w (16 * k.val + 7)).toNat * 64 + 0) (woff_eq (rd 1024 w (16 * k.val + 7)) h7 0 (by decide)) ?_
  refine table_step d _ _ ((rd 1024 w (16 * k.val + 7)).toNat * 64 + 16) (woff_eq (rd 1024 w (16 * k.val + 7)) h7 16 (by decide)) ?_
  refine pure_step d _ _ ?_
  dsimp only
  refine bind_step d _ _ ?_
  rw [k0_part17_eq_skeleton]; unfold k0_part17_skel
  refine table_step d _ _ ((rd 1024 w (16 * k.val + 7)).toNat * 64 + 32) (woff_eq (rd 1024 w (16 * k.val + 7)) h7 32 (by decide)) ?_
  refine table_step d _ _ ((rd 1024 w (16 * k.val + 7)).toNat * 64 + 48) (woff_eq (rd 1024 w (16 * k.val + 7)) h7 48 (by decide)) ?_
  refine out_step d _ _ (2 * k.val + 0) 0 (by decide) (by omega) (256 * k.val + 16 * 1) (by omega) (by omega)
    ((congrFun (k0_off11_eq k 0) 0).trans (by show 256 * k.val + 32 * 0 = 128 * (2 * k.val + 0) + 16 * 0; omega))
    (fun c => rd 1024 w (16 * k.val + (0 + c))) (fun c _ => congrArg (rd 1024 w) (by omega)) (fun _ => rfl) ?_
  refine out_step d _ _ (2 * k.val + 0) 1 (by decide) (by omega) (256 * k.val + 16 * 2) (by omega) (by omega)
    ((congrFun (k0_off12_eq k 0) 0).trans (by show 256 * k.val + 32 * 0 + 16 = 128 * (2 * k.val + 0) + 16 * 1; omega))
    (fun c => rd 1024 w (16 * k.val + (0 + c))) (fun c _ => congrArg (rd 1024 w) (by omega)) (fun _ => rfl) ?_
  refine out_step d _ _ (2 * k.val + 0) 2 (by decide) (by omega) (256 * k.val + 16 * 3) (by omega) (by omega)
    ((congrFun (k0_off11_eq k 1) 0).trans (by show 256 * k.val + 32 * 1 = 128 * (2 * k.val + 0) + 16 * 2; omega))
    (fun c => rd 1024 w (16 * k.val + (0 + c))) (fun c _ => congrArg (rd 1024 w) (by omega)) (fun _ => rfl) ?_
  refine pure_step d _ _ ?_
  dsimp only
  refine bind_step d _ _ ?_
  rw [k0_part18_eq_skeleton]; unfold k0_part18_skel
  refine out_step d _ _ (2 * k.val + 0) 3 (by decide) (by omega) (256 * k.val + 16 * 4) (by omega) (by omega)
    ((congrFun (k0_off12_eq k 1) 0).trans (by show 256 * k.val + 32 * 1 + 16 = 128 * (2 * k.val + 0) + 16 * 3; omega))
    (fun c => rd 1024 w (16 * k.val + (0 + c))) (fun c _ => congrArg (rd 1024 w) (by omega)) (fun _ => rfl) ?_
  refine out_step d _ _ (2 * k.val + 0) 4 (by decide) (by omega) (256 * k.val + 16 * 5) (by omega) (by omega)
    ((congrFun (k0_off11_eq k 2) 0).trans (by show 256 * k.val + 32 * 2 = 128 * (2 * k.val + 0) + 16 * 4; omega))
    (fun c => rd 1024 w (16 * k.val + (0 + c))) (fun c _ => congrArg (rd 1024 w) (by omega)) (fun _ => rfl) ?_
  refine out_step d _ _ (2 * k.val + 0) 5 (by decide) (by omega) (256 * k.val + 16 * 6) (by omega) (by omega)
    ((congrFun (k0_off12_eq k 2) 0).trans (by show 256 * k.val + 32 * 2 + 16 = 128 * (2 * k.val + 0) + 16 * 5; omega))
    (fun c => rd 1024 w (16 * k.val + (0 + c))) (fun c _ => congrArg (rd 1024 w) (by omega)) (fun _ => rfl) ?_
  refine out_step d _ _ (2 * k.val + 0) 6 (by decide) (by omega) (256 * k.val + 16 * 7) (by omega) (by omega)
    ((congrFun (k0_off11_eq k 3) 0).trans (by show 256 * k.val + 32 * 3 = 128 * (2 * k.val + 0) + 16 * 6; omega))
    (fun c => rd 1024 w (16 * k.val + (0 + c))) (fun c _ => congrArg (rd 1024 w) (by omega)) (fun _ => rfl) ?_
  refine out_step d _ _ (2 * k.val + 0) 7 (by decide) (by omega) (256 * k.val + 16 * 8) (by omega) (by omega)
    ((congrFun (k0_off12_eq k 3) 0).trans (by show 256 * k.val + 32 * 3 + 16 = 128 * (2 * k.val + 0) + 16 * 7; omega))
    (fun c => rd 1024 w (16 * k.val + (0 + c))) (fun c _ => congrArg (rd 1024 w) (by omega)) (fun _ => rfl) ?_
  refine assume_step d _ _ (word_ok (rd 1024 w (16 * k.val + 8)) (h8)) ?_
  refine table_step d _ _ ((rd 1024 w (16 * k.val + 8)).toNat * 64 + 0) (woff_eq (rd 1024 w (16 * k.val + 8)) h8 0 (by decide)) ?_
  refine pure_step d _ _ ?_
  dsimp only
  refine bind_step d _ _ ?_
  rw [k0_part19_eq_skeleton]; unfold k0_part19_skel
  refine table_step d _ _ ((rd 1024 w (16 * k.val + 8)).toNat * 64 + 16) (woff_eq (rd 1024 w (16 * k.val + 8)) h8 16 (by decide)) ?_
  refine table_step d _ _ ((rd 1024 w (16 * k.val + 8)).toNat * 64 + 32) (woff_eq (rd 1024 w (16 * k.val + 8)) h8 32 (by decide)) ?_
  refine table_step d _ _ ((rd 1024 w (16 * k.val + 8)).toNat * 64 + 48) (woff_eq (rd 1024 w (16 * k.val + 8)) h8 48 (by decide)) ?_
  refine assume_step d _ _ (word_ok (rd 1024 w (16 * k.val + 9)) (h9)) ?_
  refine table_step d _ _ ((rd 1024 w (16 * k.val + 9)).toNat * 64 + 0) (woff_eq (rd 1024 w (16 * k.val + 9)) h9 0 (by decide)) ?_
  refine table_step d _ _ ((rd 1024 w (16 * k.val + 9)).toNat * 64 + 16) (woff_eq (rd 1024 w (16 * k.val + 9)) h9 16 (by decide)) ?_
  refine pure_step d _ _ ?_
  dsimp only
  refine bind_step d _ _ ?_
  rw [k0_part20_eq_skeleton]; unfold k0_part20_skel
  refine table_step d _ _ ((rd 1024 w (16 * k.val + 9)).toNat * 64 + 32) (woff_eq (rd 1024 w (16 * k.val + 9)) h9 32 (by decide)) ?_
  refine table_step d _ _ ((rd 1024 w (16 * k.val + 9)).toNat * 64 + 48) (woff_eq (rd 1024 w (16 * k.val + 9)) h9 48 (by decide)) ?_
  refine assume_step d _ _ (word_ok (rd 1024 w (16 * k.val + 10)) (h10)) ?_
  refine table_step d _ _ ((rd 1024 w (16 * k.val + 10)).toNat * 64 + 0) (woff_eq (rd 1024 w (16 * k.val + 10)) h10 0 (by decide)) ?_
  refine table_step d _ _ ((rd 1024 w (16 * k.val + 10)).toNat * 64 + 16) (woff_eq (rd 1024 w (16 * k.val + 10)) h10 16 (by decide)) ?_
  refine pure_step d _ _ ?_
  dsimp only
  refine bind_step d _ _ ?_
  rw [k0_part21_eq_skeleton]; unfold k0_part21_skel
  refine table_step d _ _ ((rd 1024 w (16 * k.val + 10)).toNat * 64 + 32) (woff_eq (rd 1024 w (16 * k.val + 10)) h10 32 (by decide)) ?_
  refine table_step d _ _ ((rd 1024 w (16 * k.val + 10)).toNat * 64 + 48) (woff_eq (rd 1024 w (16 * k.val + 10)) h10 48 (by decide)) ?_
  refine assume_step d _ _ (word_ok (rd 1024 w (16 * k.val + 11)) (h11)) ?_
  refine table_step d _ _ ((rd 1024 w (16 * k.val + 11)).toNat * 64 + 0) (woff_eq (rd 1024 w (16 * k.val + 11)) h11 0 (by decide)) ?_
  refine table_step d _ _ ((rd 1024 w (16 * k.val + 11)).toNat * 64 + 16) (woff_eq (rd 1024 w (16 * k.val + 11)) h11 16 (by decide)) ?_
  refine pure_step d _ _ ?_
  dsimp only
  refine bind_step d _ _ ?_
  rw [k0_part22_eq_skeleton]; unfold k0_part22_skel
  refine table_step d _ _ ((rd 1024 w (16 * k.val + 11)).toNat * 64 + 32) (woff_eq (rd 1024 w (16 * k.val + 11)) h11 32 (by decide)) ?_
  refine table_step d _ _ ((rd 1024 w (16 * k.val + 11)).toNat * 64 + 48) (woff_eq (rd 1024 w (16 * k.val + 11)) h11 48 (by decide)) ?_
  refine assume_step d _ _ (word_ok (rd 1024 w (16 * k.val + 12)) (h12)) ?_
  refine table_step d _ _ ((rd 1024 w (16 * k.val + 12)).toNat * 64 + 0) (woff_eq (rd 1024 w (16 * k.val + 12)) h12 0 (by decide)) ?_
  refine table_step d _ _ ((rd 1024 w (16 * k.val + 12)).toNat * 64 + 16) (woff_eq (rd 1024 w (16 * k.val + 12)) h12 16 (by decide)) ?_
  refine table_step d _ _ ((rd 1024 w (16 * k.val + 12)).toNat * 64 + 32) (woff_eq (rd 1024 w (16 * k.val + 12)) h12 32 (by decide)) ?_
  refine pure_step d _ _ ?_
  dsimp only
  refine bind_step d _ _ ?_
  rw [k0_part23_eq_skeleton]; unfold k0_part23_skel
  refine table_step d _ _ ((rd 1024 w (16 * k.val + 12)).toNat * 64 + 48) (woff_eq (rd 1024 w (16 * k.val + 12)) h12 48 (by decide)) ?_
  refine assume_step d _ _ (word_ok (rd 1024 w (16 * k.val + 13)) (h13)) ?_
  refine table_step d _ _ ((rd 1024 w (16 * k.val + 13)).toNat * 64 + 0) (woff_eq (rd 1024 w (16 * k.val + 13)) h13 0 (by decide)) ?_
  refine table_step d _ _ ((rd 1024 w (16 * k.val + 13)).toNat * 64 + 16) (woff_eq (rd 1024 w (16 * k.val + 13)) h13 16 (by decide)) ?_
  refine table_step d _ _ ((rd 1024 w (16 * k.val + 13)).toNat * 64 + 32) (woff_eq (rd 1024 w (16 * k.val + 13)) h13 32 (by decide)) ?_
  refine pure_step d _ _ ?_
  dsimp only
  refine bind_step d _ _ ?_
  rw [k0_part24_eq_skeleton]; unfold k0_part24_skel
  refine table_step d _ _ ((rd 1024 w (16 * k.val + 13)).toNat * 64 + 48) (woff_eq (rd 1024 w (16 * k.val + 13)) h13 48 (by decide)) ?_
  refine assume_step d _ _ (word_ok (rd 1024 w (16 * k.val + 14)) (h14)) ?_
  refine table_step d _ _ ((rd 1024 w (16 * k.val + 14)).toNat * 64 + 0) (woff_eq (rd 1024 w (16 * k.val + 14)) h14 0 (by decide)) ?_
  refine table_step d _ _ ((rd 1024 w (16 * k.val + 14)).toNat * 64 + 16) (woff_eq (rd 1024 w (16 * k.val + 14)) h14 16 (by decide)) ?_
  refine table_step d _ _ ((rd 1024 w (16 * k.val + 14)).toNat * 64 + 32) (woff_eq (rd 1024 w (16 * k.val + 14)) h14 32 (by decide)) ?_
  refine pure_step d _ _ ?_
  dsimp only
  refine bind_step d _ _ ?_
  rw [k0_part25_eq_skeleton]; unfold k0_part25_skel
  refine table_step d _ _ ((rd 1024 w (16 * k.val + 14)).toNat * 64 + 48) (woff_eq (rd 1024 w (16 * k.val + 14)) h14 48 (by decide)) ?_
  refine assume_step d _ _ (word_ok (rd 1024 w (16 * k.val + 15)) (h15)) ?_
  refine table_step d _ _ ((rd 1024 w (16 * k.val + 15)).toNat * 64 + 0) (woff_eq (rd 1024 w (16 * k.val + 15)) h15 0 (by decide)) ?_
  refine table_step d _ _ ((rd 1024 w (16 * k.val + 15)).toNat * 64 + 16) (woff_eq (rd 1024 w (16 * k.val + 15)) h15 16 (by decide)) ?_
  refine table_step d _ _ ((rd 1024 w (16 * k.val + 15)).toNat * 64 + 32) (woff_eq (rd 1024 w (16 * k.val + 15)) h15 32 (by decide)) ?_
  refine pure_step d _ _ ?_
  dsimp only
  refine bind_step d _ _ ?_
  rw [k0_part26_eq_skeleton]; unfold k0_part26_skel
  refine table_step d _ _ ((rd 1024 w (16 * k.val + 15)).toNat * 64 + 48) (woff_eq (rd 1024 w (16 * k.val + 15)) h15 48 (by decide)) ?_
  refine out_step d _ _ (2 * k.val + 1) 0 (by decide) (by omega) (256 * k.val + 16 * 9) (by omega) (by omega)
    ((congrFun (k0_off21_eq k 0) 0).trans (by show 256 * k.val + 32 * 0 + 128 = 128 * (2 * k.val + 1) + 16 * 0; omega))
    (fun c => rd 1024 w (16 * k.val + (8 + c))) (fun c _ => congrArg (rd 1024 w) (by omega)) (fun _ => rfl) ?_
  refine out_step d _ _ (2 * k.val + 1) 1 (by decide) (by omega) (256 * k.val + 16 * 10) (by omega) (by omega)
    ((congrFun (k0_off22_eq k 0) 0).trans (by show 256 * k.val + 32 * 0 + 144 = 128 * (2 * k.val + 1) + 16 * 1; omega))
    (fun c => rd 1024 w (16 * k.val + (8 + c))) (fun c _ => congrArg (rd 1024 w) (by omega)) (fun _ => rfl) ?_
  refine out_step d _ _ (2 * k.val + 1) 2 (by decide) (by omega) (256 * k.val + 16 * 11) (by omega) (by omega)
    ((congrFun (k0_off21_eq k 1) 0).trans (by show 256 * k.val + 32 * 1 + 128 = 128 * (2 * k.val + 1) + 16 * 2; omega))
    (fun c => rd 1024 w (16 * k.val + (8 + c))) (fun c _ => congrArg (rd 1024 w) (by omega)) (fun _ => rfl) ?_
  refine out_step d _ _ (2 * k.val + 1) 3 (by decide) (by omega) (256 * k.val + 16 * 12) (by omega) (by omega)
    ((congrFun (k0_off22_eq k 1) 0).trans (by show 256 * k.val + 32 * 1 + 144 = 128 * (2 * k.val + 1) + 16 * 3; omega))
    (fun c => rd 1024 w (16 * k.val + (8 + c))) (fun c _ => congrArg (rd 1024 w) (by omega)) (fun _ => rfl) ?_
  refine out_step d _ _ (2 * k.val + 1) 4 (by decide) (by omega) (256 * k.val + 16 * 13) (by omega) (by omega)
    ((congrFun (k0_off21_eq k 2) 0).trans (by show 256 * k.val + 32 * 2 + 128 = 128 * (2 * k.val + 1) + 16 * 4; omega))
    (fun c => rd 1024 w (16 * k.val + (8 + c))) (fun c _ => congrArg (rd 1024 w) (by omega)) (fun _ => rfl) ?_
  refine out_step d _ _ (2 * k.val + 1) 5 (by decide) (by omega) (256 * k.val + 16 * 14) (by omega) (by omega)
    ((congrFun (k0_off22_eq k 2) 0).trans (by show 256 * k.val + 32 * 2 + 144 = 128 * (2 * k.val + 1) + 16 * 5; omega))
    (fun c => rd 1024 w (16 * k.val + (8 + c))) (fun c _ => congrArg (rd 1024 w) (by omega)) (fun _ => rfl) ?_
  refine pure_step d _ _ ?_
  dsimp only
  refine out_step d _ _ (2 * k.val + 1) 6 (by decide) (by omega) (256 * k.val + 16 * 15) (by omega) (by omega)
    ((congrFun (k0_off21_eq k 3) 0).trans (by show 256 * k.val + 32 * 3 + 128 = 128 * (2 * k.val + 1) + 16 * 6; omega))
    (fun c => rd 1024 w (16 * k.val + (8 + c))) (fun c _ => congrArg (rd 1024 w) (by omega)) (fun _ => rfl) ?_
  refine out_step d _ _ (2 * k.val + 1) 7 (by decide) (by omega) (256 * k.val + 16 * 16) (by omega) (by omega)
    ((congrFun (k0_off22_eq k 3) 0).trans (by show 256 * k.val + 32 * 3 + 144 = 128 * (2 * k.val + 1) + 16 * 7; omega))
    (fun c => rd 1024 w (16 * k.val + (8 + c))) (fun c _ => congrArg (rd 1024 w) (by omega)) (fun _ => rfl) ?_
  refine pure_step d _ _ ?_
  exact Entails.of_eq (congrArg (StR d (cV L) (jV L) R tb w) (by omega))

end Cert.Proof.Lookup
-- ==== Proof.Block.lean ====
module

public import proofs.«01_k».proof.Proof.Rows
public import Idealize.ShloMosaic.Lib.SparseCore.FromWhole

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the whole call computes -/

/-- The table row of chunk `c` of row `r` of `x`. -/
def codeG (X : S5600000.Idx → BitVec 32) (r c : ℕ) : BitVec 32 :=
  rd 5600000 X (56 * r + (7 * c + 0)) + rd 5600000 X (56 * r + (7 * c + 1)) <<< (1#32) + rd 5600000 X (56 * r + (7 * c + 2)) <<< (2#32)
    + rd 5600000 X (56 * r + (7 * c + 3)) <<< (3#32) + rd 5600000 X (56 * r + (7 * c + 4)) <<< (4#32) + rd 5600000 X (56 * r + (7 * c + 5)) <<< (5#32)
    + rd 5600000 X (56 * r + (7 * c + 6)) <<< (6#32) + BitVec.ofNat 32 (128 * c)

/-- Entry `e` of the flat result: row `e / 128`, sixteen-lane group `e % 128 / 16`, lane `e % 16`. -/
def outN (X : S5600000.Idx → BitVec 32) (T : S65536.Idx → BitVec 32) (e : ℕ) : F .f32 :=
  outEl T (codeG X (e / 128)) (e % 128 / 16) (e % 16)

def outG (X : S5600000.Idx → BitVec 32) (T : S65536.Idx → BitVec 32) : S12800000.Idx → F .f32 := fun j => outN X T (j 0).val

/-- Every entry of `x` is a bit. -/
def Bits01 (X : S5600000.Idx → BitVec 32) : Prop := ∀ j, (X j).toNat < 2

omit [FloatOps F] in
theorem codeG_lt {X : S5600000.Idx → BitVec 32} (hX : Bits01 X) (r c : ℕ) (hc : c < 8) : (codeG X r c).toNat < 1024 := by
  unfold codeG rd
  have h0 := hX (ix 5600000 (56 * r + (7 * c + 0)))
  have h1 := hX (ix 5600000 (56 * r + (7 * c + 1)))
  have h2 := hX (ix 5600000 (56 * r + (7 * c + 2)))
  have h3 := hX (ix 5600000 (56 * r + (7 * c + 3)))
  have h4 := hX (ix 5600000 (56 * r + (7 * c + 4)))
  have h5 := hX (ix 5600000 (56 * r + (7 * c + 5)))
  have h6 := hX (ix 5600000 (56 * r + (7 * c + 6)))
  simp only [BitVec.toNat_add, BitVec.shiftLeft_eq', BitVec.toNat_shiftLeft, BitVec.toNat_ofNat, Nat.shiftLeft_eq, Nat.reduceMod, Nat.reducePow]
  omega

/-! ## A tile's part of the result -/

/-- The first row of block `k` of the tile. -/
def row0 (L : grid0.Coords) (k : ℕ) : ℕ := 6250 * (L 1).val + 3125 * (L 0).val + 125 * k

omit [FloatOps F] in
theorem row0_le (L : grid0.Coords) (k : ℕ) (hk : k ≤ 25) : row0 L k ≤ 100000 := by
  have h0 : (L 0).val < 2 := (L 0).isLt
  have h1 : (L 1).val < 16 := (L 1).isLt
  unfold row0; omega

/-- The tile's entries of the flat result. -/
def tileSet (L : grid0.Coords) : Finset S12800000.Idx :=
  Finset.univ.filter fun j => 128 * row0 L 0 ≤ (j 0).val ∧ (j 0).val < 128 * row0 L 25

/-- The tile's rows of blocks before `k` are in place. -/
def DoneTo (L : grid0.Coords) (X : S5600000.Idx → BitVec 32) (T : S65536.Idx → BitVec 32) (k : ℕ) (g : S12800000.Idx → F .f32) : Prop :=
  ∀ e, 128 * row0 L 0 ≤ e → e < 128 * row0 L k → rd 12800000 g e = outN X T e

section Block

variable (d : Dev nD) (L : grid0.Coords)
variable {α : Type} {Q : α → sProp (MT nD τ sig (HIx 1) (Elt F) ℕ UU ℕ)}

abbrev xG (q : PosShare TreeShare) (X : S5600000.Idx → BitVec 32) : sProp 𝕄 := (V d (cV L) (jV L)).loc main_v0_scv ↦{q} X
abbrev oG (g : S12800000.Idx → F .f32) : sProp 𝕄 := (V d (cV L) (jV L)).loc main_v2_scv ↦[tileSet L]{fullShare} g

/-- A copy and its wait, over a whole source. -/
theorem copy_step {sp sp' : Space} {s : Shape} {e : EltTy} {src : Memref sig .scVector sp s e} {dst : Memref sig .scVector sp' s e} {sem : DmaSem sig}
    {Sd : Finset (Idx (dst.view.loc (V d (cV L) (jV L))))} {fs : Buf (Elt F) (src.view.loc (V d (cV L) (jV L)))} {fd : Buf (Elt F) (dst.view.loc (V d (cV L) (jV L)))}
    {q : PosShare TreeShare} {O : CellTallies nD τ sig (HIx 1)} {W : Waits sig (HIx 1)}
    (hn : 0 < s.numel) (hSd : dst.view.set ⊆ Sd)
    {hs hs' : src.view.WordExact} {hd hd' : dst.view.WordExact} {ht : DmaTarget.Typed (nD := nD) (τ := τ) (p := .scVector (cV L) (jV L)) sp (.dma sem) (.here dst)}
    {k : PUnit → Prog (TpuEff nD τ sig (Elt F) Λ₀ (.scVector (cV L) (jV L))) α} :
    iprop(Transfers.MayWaits (V d (cV L) (jV L)) (none : HIx 1) O ∗ (src.view.loc (V d (cV L) (jV L)) ↦{q} fs) ∗ (dst.view.loc (V d (cV L) (jV L)) ↦[Sd]{fullShare} fd)
        ∗ semVal (V d (cV L) (jV L), .dma sem) 0 ∗ owes (V d (cV L) (jV L)) O W)
      ⊢ iprop((iprop((src.view.loc (V d (cV L) (jV L)) ↦{q} fs)
            ∗ (dst.view.loc (V d (cV L) (jV L)) ↦[Sd]{fullShare} (dst.view.write (Elt F) fd (src.view.read (Elt F) fs) Finset.univ))
            ∗ semVal (V d (cV L) (jV L), .dma sem) 0 ∗ owes (V d (cV L) (jV L)) O (insert (SemLoc.dma sem, none) W))
          -∗ wp (M := MT nD τ sig (HIx 1) (Elt F) ℕ UU ℕ) frame (wpE (defs₀ (F := F)) 𝒱₀ (V d (cV L) (jV L)) none) Set.univ (k ⟨⟩) Q)
        -∗ wp (M := MT nD τ sig (HIx 1) (Elt F) ℕ UU ℕ) frame (wpE (defs₀ (F := F)) 𝒱₀ (V d (cV L) (jV L)) none) Set.univ
            (Prog.lift (.enqueueDma src (.here dst) (.dma sem) hs hd ht) >>= fun _ => Prog.lift (.waitDma2 sem src dst hs' hd') >>= k) Q) := by
  iintro ⟨#Hmw, Hs, Hd, Hv, HO⟩ Hk
  iapply (Transfers.wp_dmaFromWhole (countersEmb) 𝒱₀ (V d (cV L) (jV L)) none (none : HIx 1) (dst.view.amount (.dma sem)) rfl (View.amount_pos _ _ hn) hSd) $$ [Hs Hd Hv]
  · isplitl [Hs]; · iexact Hs
    isplitl [Hd]; · iexact Hd
    iexact Hv
  iintro Hfl
  iapply (Transfers.wp_waitLocalO (countersEmb) 𝒱₀ (V d (cV L) (jV L)) none (none : HIx 1) (N := dst.view.amount (.dma sem)) rfl) $$ [Hfl HO]
  · isplitl [Hfl]; · iexact Hfl
    isplitl [HO]; · iexact HO
    iapply (Transfers.MayWaits.elim (SemLoc.dma sem)); iexact Hmw
  iintro ⟨⟨Hd, Hs⟩, Hv, HO⟩
  iapply Hk
  isplitl [Hs]; · iexact Hs
  isplitl [Hd]; · iexact Hd
  isplitl [Hv]; · iexact Hv
  iexact HO

/-! ## The fetch of a block of `x` -/

abbrev xSrc (k1 : Fin k0_t1_loop.trips) : Memref sig .scVector .hbm S7000 .i32 :=
  (xV : Memref sig .scVector .hbm S5600000 .i32).slice (Rect.unit (s := S5600000) (k0_off1 L k1) S7000.size (k0_off1_inb L k1)) (fun _ => rfl)
abbrev xDst : Memref sig .scVector .vmem S7000 .i32 :=
  (sX : Memref sig .scVector .vmem S7168 .i32).slice (Rect.unit (s := S7168) ![0] S7000.size inb_S7168_S7000_0) (fun _ => rfl)
abbrev oDst (k1 : Fin k0_t1_loop.trips) : Memref sig .scVector .hbm S16000 .f32 :=
  (oV : Memref sig .scVector .hbm S12800000 .f32).slice (Rect.unit (s := S12800000) (k0_off31 L k1) S16000.size (k0_off31_inb L k1)) (fun _ => rfl)

/-- The block's entries of `x` are in the scratch. -/
def XHolds (X : S5600000.Idx → BitVec 32) (k : ℕ) (f : S7168.Idx → BitVec 32) : Prop :=
  ∀ p, p < 7000 → rd 7168 f p = rd 5600000 X (56 * row0 L k + p)

omit [FloatOps F] in
theorem fetch_holds (X : S5600000.Idx → BitVec 32) (k1 : Fin k0_t1_loop.trips) (f : S7168.Idx → BitVec 32) :
    XHolds L X k1.val (xDst.view.write (Elt F) f ((xSrc L k1).view.read (Elt F) X) Finset.univ) := by
  intro p hp
  have h0 : (L 0).val < 2 := (L 0).isLt
  have h1 : (L 1).val < 16 := (L 1).isLt
  have hk : k1.val < 25 := k1.isLt
  have e1 : xDst.view.emb (ix 7000 p) = ix 7168 p := by
    funext (a : Fin 1); obtain rfl : a = 0 := Subsingleton.elim _ _
    apply Fin.ext
    show 0 + 1 * (p % 7000) = p % 7168
    omega
  have e2 : (xSrc L k1).view.emb (ix 7000 p) = ix 5600000 (56 * row0 L k1.val + p) := by
    funext (a : Fin 1); obtain rfl : a = 0 := Subsingleton.elim _ _
    apply Fin.ext
    show k0_off1 L k1 0 + 1 * (p % 7000) = (56 * row0 L k1.val + p) % 5600000
    rw [k0_off1_eq]
    show 350000 * (L 1).val + 175000 * (L 0).val + 7000 * k1.val + 1 * (p % 7000) = (56 * row0 L k1.val + p) % 5600000
    unfold row0
    omega
  unfold rd
  rw [← e1, View.write_emb_of_mem _ _ (Finset.mem_univ _), View.read_apply, e2]
  rfl

omit [FloatOps F] in
theorem codeAt_block {X : S5600000.Idx → BitVec 32} {k : ℕ} {f : S7168.Idx → BitVec 32} (h : XHolds L X k f) (r c : ℕ) (hr : r < 125) (hc : c < 8) :
    codeAt f (r * 56) c = codeG X (row0 L k + r) c := by
  have hh : ∀ j, j < 7 → rd 7168 f (r * 56 + (7 * c + j)) = rd 5600000 X (56 * (row0 L k + r) + (7 * c + j)) := by
    intro j hj
    rw [h _ (by omega)]
    exact congrArg (rd 5600000 X) (by omega)
  unfold codeAt codeG
  rw [hh 0 (by decide), hh 1 (by decide), hh 2 (by decide), hh 3 (by decide), hh 4 (by decide), hh 5 (by decide), hh 6 (by decide)]

/-- The block's codes are in the scratch. -/
def WHolds (X : S5600000.Idx → BitVec 32) (k : ℕ) (w : S1024.Idx → BitVec 32) : Prop :=
  ∀ e, e < 1000 → rd 1024 w e = codeG X (row0 L k + e / 8) (e % 8)

omit [FloatOps F] in
theorem WHolds_of {X : S5600000.Idx → BitVec 32} {k : ℕ} {f : S7168.Idx → BitVec 32} (h : XHolds L X k f) {w : S1024.Idx → BitVec 32} (hw : CodesTo f 8 0 w) :
    WHolds L X k w := fun e he => by
  rw [hw e (by omega) (.inl (by omega))]
  exact codeAt_block L h (e / 8) (e % 8) (by omega) (by omega)

omit [FloatOps F] in
theorem WHolds.lt {X : S5600000.Idx → BitVec 32} {k : ℕ} {w : S1024.Idx → BitVec 32} (hX : Bits01 X) (h : WHolds L X k w) :
    ∀ e, e < 1000 → (rd 1024 w e).toNat < 1024 := fun e he => by
  rw [h e he]; exact codeG_lt hX _ _ (by omega)

/-! ## The copy of a block's result -/

omit [FloatOps F] in
theorem oDst_emb (k1 : Fin k0_t1_loop.trips) (y : S16000.Idx) : (((oDst L k1).view.emb y) 0).val = 128 * row0 L k1.val + (y 0).val := by
  show k0_off31 L k1 0 + 1 * (y 0).val = _
  rw [k0_off31_eq]
  show 800000 * (L 1).val + 400000 * (L 0).val + 16000 * k1.val + 1 * (y 0).val = _
  unfold row0
  omega

omit [FloatOps F] in
theorem oDst_sub (k1 : Fin k0_t1_loop.trips) : (oDst L k1).view.set ⊆ tileSet L := by
  intro i hi
  obtain ⟨y, -, rfl⟩ := Finset.mem_map.mp hi
  have hk : k1.val < 25 := k1.isLt
  have hy : (y 0).val < 16000 := (y 0).isLt
  refine Finset.mem_filter.mpr ⟨Finset.mem_univ _, ?_⟩
  rw [oDst_emb]
  unfold row0
  omega

theorem copy_done {X : S5600000.Idx → BitVec 32} {T : S65536.Idx → BitVec 32} (k1 : Fin k0_t1_loop.trips) {w : S1024.Idx → BitVec 32} (hw : WHolds L X k1.val w)
    {o : S16000.Idx → F .f32} (ho : OutTo T w 16000 o) {g : S12800000.Idx → F .f32} (hg : DoneTo L X T k1.val g) :
    DoneTo L X T (k1.val + 1) ((oDst L k1).view.write (Elt F) g ((sO : Memref sig .scVector .vmem S16000 .f32).view.read (Elt F) o) Finset.univ) := by
  intro e he1 he2
  have hk : k1.val < 25 := k1.isLt
  have hle := row0_le L (k1.val + 1) (by omega)
  have he : e < 12800000 := by omega
  have hrow : row0 L (k1.val + 1) = row0 L k1.val + 125 := by unfold row0; omega
  by_cases hc : e < 128 * row0 L k1.val
  · rw [← hg e he1 hc]
    unfold rd
    refine View.write_of_not_mem _ _ _ fun hm => ?_
    obtain ⟨y, -, hy⟩ := Finset.mem_map.mp hm
    have := oDst_emb L k1 y
    rw [hy, ix_val he] at this
    omega
  · have hp : e - 128 * row0 L k1.val < 16000 := by omega
    have e1 : (oDst L k1).view.emb (ix 16000 (e - 128 * row0 L k1.val)) = ix 12800000 e := by
      funext (a : Fin 1); obtain rfl : a = 0 := Subsingleton.elim _ _
      apply Fin.ext
      rw [oDst_emb, ix_val hp, ix_val he]
      omega
    have e2 : rd 16000 o (e - 128 * row0 L k1.val) = outN X T e := by
      rw [ho _ hp]
      unfold outN
      have a1 : (e - 128 * row0 L k1.val) / 128 = e / 128 - row0 L k1.val := by omega
      have a2 : (e - 128 * row0 L k1.val) % 128 = e % 128 := by omega
      have a3 : (e - 128 * row0 L k1.val) % 16 = e % 16 := by omega
      rw [a2, a3]
      refine outEl_congr T (fun c hc => ?_) _ _
      rw [hw _ (by omega)]
      congr 1 <;> omega
    rw [← e2]
    unfold rd
    rw [← e1, View.write_emb_of_mem _ _ (Finset.mem_univ _)]
    rfl

/-! ## The state between blocks -/

/-- What a tile holds besides the table, the codes and the block's result. -/
def Rest (q : PosShare TreeShare) (X : S5600000.Idx → BitVec 32) (T : S65536.Idx → BitVec 32) (O : CellTallies nD τ sig (HIx 1)) (W : Waits sig (HIx 1)) (k : ℕ) : sProp 𝕄 :=
  iprop(Transfers.MayWaits (V d (cV L) (jV L)) (none : HIx 1) O ∗ xG d L q X ∗ (∃ f, xPt d (cV L) (jV L) f) ∗ (∃ g, ⌜DoneTo L X T k g⌝ ∗ oG d L g)
    ∗ semVal (V d (cV L) (jV L), .dma cc0_scoped1.sem) 0 ∗ semVal (V d (cV L) (jV L), .dma cc0_scoped2.sem) 0
    ∗ ∃ W', ⌜∀ p ∈ W', p ∈ W ∨ p.2 = none⌝ ∗ owes (V d (cV L) (jV L)) O W')

def Inv (q : PosShare TreeShare) (X : S5600000.Idx → BitVec 32) (T : S65536.Idx → BitVec 32) (O : CellTallies nD τ sig (HIx 1)) (W : Waits sig (HIx 1)) (k : ℕ) : sProp 𝕄 :=
  iprop(Rest d L q X T O W k ∗ tPt d (cV L) (jV L) T ∗ (∃ w, wPt d (cV L) (jV L) w) ∗ ∃ o, oPt d (cV L) (jV L) o)

omit [FloatOps F] in
theorem ins_ok {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact .inr rfl
  · exact h p hp

variable {q : PosShare TreeShare} {X : S5600000.Idx → BitVec 32} {T : S65536.Idx → BitVec 32} {O : CellTallies nD τ sig (HIx 1)} {W : Waits sig (HIx 1)}

/-- The beginning of a block: the fetch, the codes, and the sums of all rows but the last. -/
theorem block_head (hX : Bits01 X) (k1 : Fin k0_t1_loop.trips) (v2 : BitVec 32)
    {hs hs' : (xSrc L k1).view.WordExact} {hd hd' : (xDst).view.WordExact}
    {ht : DmaTarget.Typed (nD := nD) (τ := τ) (p := .scVector (cV L) (jV L)) .hbm (.dma cc0_scoped1.sem) (.here xDst)}
    {kk : PUnit → Prog (TpuEff nD τ sig (Elt F) Λ₀ (.scVector (cV L) (jV L))) α}
    (H : ∀ w, WHolds L X k1.val w → StR d (cV L) (jV L) (Rest d L q X T O W k1.val) T w 15872
      ⊢ wp (M := MT nD τ sig (HIx 1) (Elt F) ℕ UU ℕ) frame (wpE (defs₀ (F := F)) 𝒱₀ (V d (cV L) (jV L)) none) Set.univ (kk ⟨⟩) Q) :
    Inv d L q X T O W k1.val ⊢ wp (M := MT nD τ sig (HIx 1) (Elt F) ℕ UU ℕ) frame (wpE (defs₀ (F := F)) 𝒱₀ (V d (cV L) (jV L)) none) Set.univ
      (Prog.lift (.enqueueDma (xSrc L k1) (.here xDst) (.dma cc0_scoped1.sem) hs hd ht) >>= fun _ =>
        Prog.lift (.waitDma2 cc0_scoped1.sem (xSrc L k1) xDst hs' hd') >>= fun _ =>
        Scf.Loop.for k0_t2_loop k0_t2_ok ⟨⟩ (k0_t2_body L xV (Memref.isWhole_whole _) tV (Memref.isWhole_whole _) oV (Memref.isWhole_whole _) sX (Memref.isWhole_whole _)
        sT (Memref.isWhole_whole _) sW (Memref.isWhole_whole _) sO (Memref.isWhole_whole _) cc0_scoped0 cc0_scoped1 cc0_scoped2 v2 k0_pay1 k0_pay2 4294901760#32 0#32 1#32 k1) >>= fun _ =>
        Scf.Loop.for k0_t3_loop k0_t3_ok ⟨⟩ (k0_t3_body L xV (Memref.isWhole_whole _) tV (Memref.isWhole_whole _) oV (Memref.isWhole_whole _) sX (Memref.isWhole_whole _)
        sT (Memref.isWhole_whole _) sW (Memref.isWhole_whole _) sO (Memref.isWhole_whole _) cc0_scoped0 cc0_scoped1 cc0_scoped2 v2 k0_pay1 k0_pay2 4294901760#32 0#32 1#32 k1) >>= kk) Q := by
  unfold Inv Rest
  iintro ⟨⟨#Hmw, Hx, ⟨%f, Hsx⟩, Ho, Hs1, Hs2, %W', %hW', HO⟩, Ht, ⟨%w0, Hw⟩, %o0, Hso⟩
  iapply (copy_step d L (src := xSrc L k1) (dst := xDst) (sem := cc0_scoped1.sem) (Sd := Finset.univ) (fs := X) (fd := f) (q := q) (O := O) (W := W') (by decide)
    (Finset.subset_univ _)) $$ [Hx Hsx Hs1 HO]
  · isplitr; · iexact Hmw
    isplitl [Hx]; · iexact Hx
    isplitl [Hsx]; · iexact Hsx
    isplitl [Hs1]; · iexact Hs1
    iexact HO
  iintro ⟨Hx, Hsx, Hs1, HO⟩
  have hf := fetch_holds (F := F) L X k1 f
  generalize (xDst.view.write (Elt F) f ((xSrc L k1).view.read (Elt F) X) Finset.univ) = f' at hf
  iapply (Scf.wp_for_bind _ _ _ k0_t2_loop.lb k0_t2_loop.ub k0_t2_loop.st k0_t2_ok PUnit.unit _ (fun k _ => StC d (cV L) (jV L) f' k 0)
    (fun k _ => codes_trip d L f' v2 k1 k)) $$ [Hsx Hw]
  · unfold StC
    isplitl [Hsx]; · iexact Hsx
    iexists w0; isplitr [Hw]
    · ipureintro; intro e he h; omega
    · iexact Hw
  iintro %_ HC
  ihave HC := (Entails.of_eq (show StC d (cV L) (jV L) f' (Scf.trips k0_t2_loop.lb k0_t2_loop.ub k0_t2_loop.st) 0
    = (iprop(xPt d (cV L) (jV L) f' ∗ ∃ w, ⌜CodesTo f' 8 0 w⌝ ∗ wPt d (cV L) (jV L) w) : sProp 𝕄) from rfl)) $$ HC
  icases HC with ⟨Hsx, %w, %hw, Hw⟩
  have hw := WHolds_of L hf hw
  iapply (Scf.wp_for_bind _ _ _ k0_t3_loop.lb k0_t3_loop.ub k0_t3_loop.st k0_t3_ok PUnit.unit _ (fun k _ => StR d (cV L) (jV L) (iprop(emp) : sProp 𝕄) T w (256 * k))
    (fun k _ => rows_trip d L (iprop(emp) : sProp 𝕄) T w (hw.lt L hX) v2 k0_pay1 k0_pay2 k1 k)) $$ [Ht Hw Hso]
  · unfold StR
    isplitr; · iempintro
    isplitl [Ht]; · iexact Ht
    isplitl [Hw]; · iexact Hw
    iexists o0; isplitr [Hso]
    · ipureintro; intro e he; omega
    · iexact Hso
  iintro %_ HR
  ihave HR := (Entails.of_eq (show StR d (cV L) (jV L) (iprop(emp) : sProp 𝕄) T w (256 * (Scf.trips k0_t3_loop.lb k0_t3_loop.ub k0_t3_loop.st))
    = (iprop((iprop(emp) : sProp 𝕄) ∗ tPt d (cV L) (jV L) T ∗ wPt d (cV L) (jV L) w ∗ ∃ o, ⌜OutTo T w 15872 o⌝ ∗ oPt d (cV L) (jV L) o) : sProp 𝕄) from rfl)) $$ HR
  icases HR with ⟨-, Ht, Hw, Hso⟩
  iapply (H w hw)
  unfold StR Rest
  isplitr [Ht Hw Hso]
  · isplitr; · iexact Hmw
    isplitl [Hx]; · iexact Hx
    isplitl [Hsx]; · iexists f'; iexact Hsx
    isplitl [Ho]; · iexact Ho
    isplitl [Hs1]; · iexact Hs1
    isplitl [Hs2]; · iexact Hs2
    iexists (insert (SemLoc.dma cc0_scoped1.sem, (none : HIx 1)) W'); isplitr
    · ipureintro; exact ins_ok hW' (SemLoc.dma cc0_scoped1.sem)
    · iexact HO
  isplitl [Ht]; · iexact Ht
  isplitl [Hw]; · iexact Hw
  iexact Hso

/-- The end of a block: its result copied out. -/
theorem block_out (k1 : Fin k0_t1_loop.trips) {w : S1024.Idx → BitVec 32} (hw : WHolds L X k1.val w)
    {hs hs' : (sO : Memref sig .scVector .vmem S16000 .f32).view.WordExact} {hd hd' : (oDst L k1).view.WordExact}
    {ht : DmaTarget.Typed (nD := nD) (τ := τ) (p := .scVector (cV L) (jV L)) .vmem (.dma cc0_scoped2.sem) (.here (oDst L k1))}
    {kk : PUnit → Prog (TpuEff nD τ sig (Elt F) Λ₀ (.scVector (cV L) (jV L))) α}
    (H : Inv d L q X T O W (k1.val + 1) ⊢ wp (M := MT nD τ sig (HIx 1) (Elt F) ℕ UU ℕ) frame (wpE (defs₀ (F := F)) 𝒱₀ (V d (cV L) (jV L)) none) Set.univ (kk ⟨⟩) Q) :
    StR d (cV L) (jV L) (Rest d L q X T O W k1.val) T w 16000
      ⊢ wp (M := MT nD τ sig (HIx 1) (Elt F) ℕ UU ℕ) frame (wpE (defs₀ (F := F)) 𝒱₀ (V d (cV L) (jV L)) none) Set.univ
      (Prog.lift (.enqueueDma sO (.here (oDst L k1)) (.dma cc0_scoped2.sem) hs hd ht) >>= fun _ =>
        Prog.lift (.waitDma2 cc0_scoped2.sem sO (oDst L k1) hs' hd') >>= kk) Q := by
  unfold StR Rest
  iintro ⟨⟨#Hmw, Hx, Hsx, ⟨%g, %hg, Ho⟩, Hs1, Hs2, %W', %hW', HO⟩, Ht, Hw, %o, %ho, Hso⟩
  iapply (copy_step d L (src := sO) (dst := oDst L k1) (sem := cc0_scoped2.sem) (Sd := tileSet L) (fs := o) (fd := g) (q := fullShare) (O := O) (W := W') (by decide)
    (oDst_sub L k1)) $$ [Hso Ho Hs2 HO]
  · isplitr; · iexact Hmw
    isplitl [Hso]; · iexact Hso
    isplitl [Ho]; · iexact Ho
    isplitl [Hs2]; · iexact Hs2
    iexact HO
  iintro ⟨Hso, Ho, Hs2, HO⟩
  iapply H
  unfold Inv Rest
  isplitr [Ht Hw Hso]
  · isplitr; · iexact Hmw
    isplitl [Hx]; · iexact Hx
    isplitl [Hsx]; · iexact Hsx
    isplitl [Ho]
    · iexists _; isplitr [Ho]
      · ipureintro; exact copy_done L k1 hw ho hg
      · iexact Ho
    isplitl [Hs1]; · iexact Hs1
    isplitl [Hs2]; · iexact Hs2
    iexists (insert (SemLoc.dma cc0_scoped2.sem, (none : HIx 1)) W'); isplitr
    · ipureintro; exact ins_ok hW' (SemLoc.dma cc0_scoped2.sem)
    · iexact HO
  isplitl [Ht]; · iexact Ht
  isplitl [Hw]; · iexists w; iexact Hw
  iexists o; iexact Hso

end Block

end Cert.Proof.Lookup
-- ==== Proof.Tile.lean ====
module

public import proofs.«01_k».proof.Proof.Block

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)
variable {q : PosShare TreeShare} {X : S5600000.Idx → BitVec 32} {T : S65536.Idx → BitVec 32} {O : CellTallies nD τ sig (HIx 1)} {W : Waits sig (HIx 1)}

set_option maxHeartbeats 8000000 in
/-- One block of the tile. -/
theorem block_trip (hX : Bits01 X) (v2 : BitVec 32) (k1 : Fin k0_t1_loop.trips) :
    Inv d L q X T O W k1.val ⊢ wp (M := MT nD τ sig (HIx 1) (Elt F) ℕ UU ℕ) frame (wpE (defs₀ (F := F)) 𝒱₀ (V d (cV L) (jV L)) none) Set.univ
      (k0_t1_body L xV (Memref.isWhole_whole _) tV (Memref.isWhole_whole _) oV (Memref.isWhole_whole _) sX (Memref.isWhole_whole _)
        sT (Memref.isWhole_whole _) sW (Memref.isWhole_whole _) sO (Memref.isWhole_whole _) cc0_scoped0 cc0_scoped1 cc0_scoped2 v2 k1 ())
      fun _ => Inv d L q X T O W (k1.val + 1) := by
  unfold k0_t1_body
  dsimp only
  refine bind_step d _ _ ?_
  rw [k0_part27_eq_skeleton]; unfold k0_part27_skel
  dsimp only
  refine block_head d L hX k1 v2 ?_
  intro w hW
  have hw := hW.lt L hX
  have h0 : (rd 1024 w (992 + 0)).toNat < 1024 := hw _ (by omega)
  have h1 : (rd 1024 w (992 + 1)).toNat < 1024 := hw _ (by omega)
  have h2 : (rd 1024 w (992 + 2)).toNat < 1024 := hw _ (by omega)
  have h3 : (rd 1024 w (992 + 3)).toNat < 1024 := hw _ (by omega)
  have h4 : (rd 1024 w (992 + 4)).toNat < 1024 := hw _ (by omega)
  have h5 : (rd 1024 w (992 + 5)).toNat < 1024 := hw _ (by omega)
  have h6 : (rd 1024 w (992 + 6)).toNat < 1024 := hw _ (by omega)
  have h7 : (rd 1024 w (992 + 7)).toNat < 1024 := hw _ (by omega)
  refine words_step d _ _ (992) (by rfl) ?_
  refine assume_step d _ _ (word_ok (rd 1024 w (992 + 0)) (h0)) ?_
  refine table_step d _ _ ((rd 1024 w (992 + 0)).toNat * 64 + 0) (woff_eq (rd 1024 w (992 + 0)) h0 0 (by decide)) ?_
  refine table_step d _ _ ((rd 1024 w (992 + 0)).toNat * 64 + 16) (woff_eq (rd 1024 w (992 + 0)) h0 16 (by decide)) ?_
  refine pure_step d _ _ ?_
  dsimp only
  refine bind_step d _ _ ?_
  rw [k0_part28_eq_skeleton]; unfold k0_part28_skel
  refine table_step d _ _ ((rd 1024 w (992 + 0)).toNat * 64 + 32) (woff_eq (rd 1024 w (992 + 0)) h0 32 (by decide)) ?_
  refine table_step d _ _ ((rd 1024 w (992 + 0)).toNat * 64 + 48) (woff_eq (rd 1024 w (992 + 0)) h0 48 (by decide)) ?_
  refine assume_step d _ _ (word_ok (rd 1024 w (992 + 1)) (h1)) ?_
  refine table_step d _ _ ((rd 1024 w (992 + 1)).toNat * 64 + 0) (woff_eq (rd 1024 w (992 + 1)) h1 0 (by decide)) ?_
  refine table_step d _ _ ((rd 1024 w (992 + 1)).toNat * 64 + 16) (woff_eq (rd 1024 w (992 + 1)) h1 16 (by decide)) ?_
  refine table_step d _ _ ((rd 1024 w (992 + 1)).toNat * 64 + 32) (woff_eq (rd 1024 w (992 + 1)) h1 32 (by decide)) ?_
  refine pure_step d _ _ ?_
  dsimp only
  refine bind_step d _ _ ?_
  rw [k0_part29_eq_skeleton]; unfold k0_part29_skel
  refine table_step d _ _ ((rd 1024 w (992 + 1)).toNat * 64 + 48) (woff_eq (rd 1024 w (992 + 1)) h1 48 (by decide)) ?_
  refine assume_step d _ _ (word_ok (rd 1024 w (992 + 2)) (h2)) ?_
  refine table_step d _ _ ((rd 1024 w (992 + 2)).toNat * 64 + 0) (woff_eq (rd 1024 w (992 + 2)) h2 0 (by decide)) ?_
  refine table_step d _ _ ((rd 1024 w (992 + 2)).toNat * 64 + 16) (woff_eq (rd 1024 w (992 + 2)) h2 16 (by decide)) ?_
  refine table_step d _ _ ((rd 1024 w (992 + 2)).toNat * 64 + 32) (woff_eq (rd 1024 w (992 + 2)) h2 32 (by decide)) ?_
  refine pure_step d _ _ ?_
  dsimp only
  refine bind_step d _ _ ?_
  rw [k0_part30_eq_skeleton]; unfold k0_part30_skel
  refine table_step d _ _ ((rd 1024 w (992 + 2)).toNat * 64 + 48) (woff_eq (rd 1024 w (992 + 2)) h2 48 (by decide)) ?_
  refine assume_step d _ _ (word_ok (rd 1024 w (992 + 3)) (h3)) ?_
  refine table_step d _ _ ((rd 1024 w (992 + 3)).toNat * 64 + 0) (woff_eq (rd 1024 w (992 + 3)) h3 0 (by decide)) ?_
  refine table_step d _ _ ((rd 1024 w (992 + 3)).toNat * 64 + 16) (woff_eq (rd 1024 w (992 + 3)) h3 16 (by decide)) ?_
  refine table_step d _ _ ((rd 1024 w (992 + 3)).toNat * 64 + 32) (woff_eq (rd 1024 w (992 + 3)) h3 32 (by decide)) ?_
  refine pure_step d _ _ ?_
  dsimp only
  refine bind_step d _ _ ?_
  rw [k0_part31_eq_skeleton]; unfold k0_part31_skel
  refine table_step d _ _ ((rd 1024 w (992 + 3)).toNat * 64 + 48) (woff_eq (rd 1024 w (992 + 3)) h3 48 (by decide)) ?_
  refine assume_step d _ _ (word_ok (rd 1024 w (992 + 4)) (h4)) ?_
  refine table_step d _ _ ((rd 1024 w (992 + 4)).toNat * 64 + 0) (woff_eq (rd 1024 w (992 + 4)) h4 0 (by decide)) ?_
  refine table_step d _ _ ((rd 1024 w (992 + 4)).toNat * 64 + 16) (woff_eq (rd 1024 w (992 + 4)) h4 16 (by decide)) ?_
  refine table_step d _ _ ((rd 1024 w (992 + 4)).toNat * 64 + 32) (woff_eq (rd 1024 w (992 + 4)) h4 32 (by decide)) ?_
  refine pure_step d _ _ ?_
  dsimp only
  refine bind_step d _ _ ?_
  rw [k0_part32_eq_skeleton]; unfold k0_part32_skel
  refine table_step d _ _ ((rd 1024 w (992 + 4)).toNat * 64 + 48) (woff_eq (rd 1024 w (992 + 4)) h4 48 (by decide)) ?_
  refine assume_step d _ _ (word_ok (rd 1024 w (992 + 5)) (h5)) ?_
  refine table_step d _ _ ((rd 1024 w (992 + 5)).toNat * 64 + 0) (woff_eq (rd 1024 w (992 + 5)) h5 0 (by decide)) ?_
  refine table_step d _ _ ((rd 1024 w (992 + 5)).toNat * 64 + 16) (woff_eq (rd 1024 w (992 + 5)) h5 16 (by decide)) ?_
  refine table_step d _ _ ((rd 1024 w (992 + 5)).toNat * 64 + 32) (woff_eq (rd 1024 w (992 + 5)) h5 32 (by decide)) ?_
  refine pure_step d _ _ ?_
  dsimp only
  refine bind_step d _ _ ?_
  rw [k0_part33_eq_skeleton]; unfold k0_part33_skel
  refine table_step d _ _ ((rd 1024 w (992 + 5)).toNat * 64 + 48) (woff_eq (rd 1024 w (992 + 5)) h5 48 (by decide)) ?_
  refine assume_step d _ _ (word_ok (rd 1024 w (992 + 6)) (h6)) ?_
  refine table_step d _ _ ((rd 1024 w (992 + 6)).toNat * 64 + 0) (woff_eq (rd 1024 w (992 + 6)) h6 0 (by decide)) ?_
  refine table_step d _ _ ((rd 1024 w (992 + 6)).toNat * 64 + 16) (woff_eq (rd 1024 w (992 + 6)) h6 16 (by decide)) ?_
  refine table_step d _ _ ((rd 1024 w (992 + 6)).toNat * 64 + 32) (woff_eq (rd 1024 w (992 + 6)) h6 32 (by decide)) ?_
  refine table_step d _ _ ((rd 1024 w (992 + 6)).toNat * 64 + 48) (woff_eq (rd 1024 w (992 + 6)) h6 48 (by decide)) ?_
  refine pure_step d _ _ ?_
  dsimp only
  refine bind_step d _ _ ?_
  rw [k0_part34_eq_skeleton]; unfold k0_part34_skel
  refine assume_step d _ _ (word_ok (rd 1024 w (992 + 7)) (h7)) ?_
  refine table_step d _ _ ((rd 1024 w (992 + 7)).toNat * 64 + 0) (woff_eq (rd 1024 w (992 + 7)) h7 0 (by decide)) ?_
  refine table_step d _ _ ((rd 1024 w (992 + 7)).toNat * 64 + 16) (woff_eq (rd 1024 w (992 + 7)) h7 16 (by decide)) ?_
  refine table_step d _ _ ((rd 1024 w (992 + 7)).toNat * 64 + 32) (woff_eq (rd 1024 w (992 + 7)) h7 32 (by decide)) ?_
  refine table_step d _ _ ((rd 1024 w (992 + 7)).toNat * 64 + 48) (woff_eq (rd 1024 w (992 + 7)) h7 48 (by decide)) ?_
  refine pure_step d _ _ ?_
  dsimp only
  refine out_step d _ _ 124 0 (by decide) (by omega) (15872 + 16 * 1) (by omega) (by omega) (by rfl)
    (fun c => rd 1024 w (992 + c)) (fun c _ => congrArg (rd 1024 w) (by omega)) (fun _ => rfl) ?_
  refine out_step d _ _ 124 1 (by decide) (by omega) (15872 + 16 * 2) (by omega) (by omega) (by rfl)
    (fun c => rd 1024 w (992 + c)) (fun c _ => congrArg (rd 1024 w) (by omega)) (fun _ => rfl) ?_
  refine out_step d _ _ 124 2 (by decide) (by omega) (15872 + 16 * 3) (by omega) (by omega) (by rfl)
    (fun c => rd 1024 w (992 + c)) (fun c _ => congrArg (rd 1024 w) (by omega)) (fun _ => rfl) ?_
  refine out_step d _ _ 124 3 (by decide) (by omega) (15872 + 16 * 4) (by omega) (by omega) (by rfl)
    (fun c => rd 1024 w (992 + c)) (fun c _ => congrArg (rd 1024 w) (by omega)) (fun _ => rfl) ?_
  refine out_step d _ _ 124 4 (by decide) (by omega) (15872 + 16 * 5) (by omega) (by omega) (by rfl)
    (fun c => rd 1024 w (992 + c)) (fun c _ => congrArg (rd 1024 w) (by omega)) (fun _ => rfl) ?_
  refine out_step d _ _ 124 5 (by decide) (by omega) (15872 + 16 * 6) (by omega) (by omega) (by rfl)
    (fun c => rd 1024 w (992 + c)) (fun c _ => congrArg (rd 1024 w) (by omega)) (fun _ => rfl) ?_
  refine out_step d _ _ 124 6 (by decide) (by omega) (15872 + 16 * 7) (by omega) (by omega) (by rfl)
    (fun c => rd 1024 w (992 + c)) (fun c _ => congrArg (rd 1024 w) (by omega)) (fun _ => rfl) ?_
  refine out_step d _ _ 124 7 (by decide) (by omega) (15872 + 16 * 8) (by omega) (by omega) (by rfl)
    (fun c => rd 1024 w (992 + c)) (fun c _ => congrArg (rd 1024 w) (by omega)) (fun _ => rfl) ?_
  refine block_out d L k1 hW ?_
  exact pure_step d _ _ Entails.rfl

/-! ## The tile's task -/

abbrev cT (d : Dev nD) (c : Fin τ.nSC) (i : Fin τ.nSub) : GSem nD τ sig := (V d c i, SemLoc.dma cc0_scoped0.sem)
abbrev cF (d : Dev nD) (c : Fin τ.nSC) (i : Fin τ.nSub) : GSem nD τ sig := (V d c i, SemLoc.dma cc0_scoped1.sem)
abbrev cO (d : Dev nD) (c : Fin τ.nSC) (i : Fin τ.nSub) : GSem nD τ sig := (V d c i, SemLoc.dma cc0_scoped2.sem)

omit [FloatOps F] in
/-- The three copy semaphores are among the tile's own cells. -/
theorem ownSems0_tile :
    (ownSems0 (V d (cV L) (jV L)) : sProp 𝕄)
      = iprop(semVal (cT d (cV L) (jV L)) 0 ∗ semVal (cF d (cV L) (jV L)) 0 ∗ semVal (cO d (cV L) (jV L)) 0
          ∗ bigSep ((((ownCells (V d (cV L) (jV L))).erase (cT d (cV L) (jV L))).erase (cF d (cV L) (jV L))).erase (cO d (cV L) (jV L)))
              fun g => semVal g 0) := by
  have n1 : cF d (cV L) (jV L) ≠ cT d (cV L) (jV L) := fun e => absurd (congrArg Prod.snd e) (show (SemLoc.dma cc0_scoped1.sem : SemLoc sig) ≠ SemLoc.dma cc0_scoped0.sem by decide)
  have n2 : cO d (cV L) (jV L) ≠ cF d (cV L) (jV L) := fun e => absurd (congrArg Prod.snd e) (show (SemLoc.dma cc0_scoped2.sem : SemLoc sig) ≠ SemLoc.dma cc0_scoped1.sem by decide)
  have n3 : cO d (cV L) (jV L) ≠ cT d (cV L) (jV L) := fun e => absurd (congrArg Prod.snd e) (show (SemLoc.dma cc0_scoped2.sem : SemLoc sig) ≠ SemLoc.dma cc0_scoped0.sem by decide)
  unfold SparseCore.Cfg.ownSems0
  rw [SparseCore.bigSep_erase' ((mem_ownCells (g := cT d (cV L) (jV L))).mpr ⟨rfl, by
      show (SemLoc.dma cc0_scoped0.sem : SemLoc sig).isScoped .scVector = true; decide⟩),
    SparseCore.bigSep_erase' (Finset.mem_erase.mpr ⟨n1, (mem_ownCells (g := cF d (cV L) (jV L))).mpr ⟨rfl, by
      show (SemLoc.dma cc0_scoped1.sem : SemLoc sig).isScoped .scVector = true; decide⟩⟩),
    SparseCore.bigSep_erase' (Finset.mem_erase.mpr ⟨n2, Finset.mem_erase.mpr ⟨n3, (mem_ownCells (g := cO d (cV L) (jV L))).mpr ⟨rfl, by
      show (SemLoc.dma cc0_scoped2.sem : SemLoc sig).isScoped .scVector = true; decide⟩⟩⟩)]

abbrev bufRef (b : Ref sig .scVector) : DevRef τ sig := (Proc.scVector (cV L) (jV L)).devRef b

omit [FloatOps F] in
/-- The four scratch buffers are among the tile's own. -/
theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bufRef L cc0_scratch0)).erase
              (bufRef L cc0_scratch1)).erase (bufRef L cc0_scratch2)).erase (bufRef L cc0_scratch3))
              fun b => iprop(∃ f, ((d, b) : Loc nD τ sig) ↦{fullShare} f)) := by
  have ne : ∀ {a b : Ref sig .scVector}, a ≠ b → bufRef L a ≠ bufRef L b := fun h e => h (Proc.devRef_injective _ e)
  have m0 : bufRef L cc0_scratch0 ∈ ownRefs (τ := τ) (.scVector (cV L) (jV L)) := SparseCore.Cfg.mem_ownRefs_of_owner rfl
  have m1 : bufRef L cc0_scratch1 ∈ ownRefs (τ := τ) (.scVector (cV L) (jV L)) := SparseCore.Cfg.mem_ownRefs_of_owner rfl
  have m2 : bufRef L cc0_scratch2 ∈ ownRefs (τ := τ) (.scVector (cV L) (jV L)) := SparseCore.Cfg.mem_ownRefs_of_owner rfl
  have m3 : bufRef L cc0_scratch3 ∈ ownRefs (τ := τ) (.scVector (cV L) (jV L)) := SparseCore.Cfg.mem_ownRefs_of_owner rfl
  unfold SparseCore.Cfg.ownBufs
  refine (SparseCore.bigSep_erase' m0).trans ?_
  rw [SparseCore.bigSep_erase' (Finset.mem_erase.mpr ⟨ne (by decide), m1⟩),
    SparseCore.bigSep_erase' (Finset.mem_erase.mpr ⟨ne (by decide), Finset.mem_erase.mpr ⟨ne (by decide), m2⟩⟩),
    SparseCore.bigSep_erase' (Finset.mem_erase.mpr ⟨ne (by decide), Finset.mem_erase.mpr ⟨ne (by decide), Finset.mem_erase.mpr ⟨ne (by decide), m3⟩⟩⟩)]

abbrev tG (q : PosShare TreeShare) (T : S65536.Idx → BitVec 32) : sProp 𝕄 := (V d (cV L) (jV L)).loc main_v1_scv ↦{q} T

theorem row0_zero_done (g : S12800000.Idx → F .f32) : DoneTo L X T 0 g := fun e h1 h2 => by omega

/-- When all 25 blocks are done the tile's part of the result is the specified one. -/
theorem oG_done {g : S12800000.Idx → F .f32} (hg : DoneTo L X T 25 g) : (oG d L g : sProp 𝕄) = oG d L (outG X T) := by
  refine pointsTo_congr fun i hi => ?_
  obtain ⟨-, h1, h2⟩ := Finset.mem_filter.mp hi
  have := hg _ h1 h2
  rw [rd_self] at this
  exact this

/-- The task on tile `(L 0, L 1)` of device `d`. -/
theorem tile_body (hX : Bits01 X) (hF : (K (F := F)).Facts) {qt : PosShare TreeShare} (g₀ : S12800000.Idx → F .f32)
    (hO : ∀ g, O g none = 0) :
    iprop(levAts (K (F := F)).L (K (F := F)).lev ∗ emp ∗ (xG d L q X ∗ tG d L qt T ∗ oG d L g₀)
        ∗ scopedBufs (V d (cV L) (jV L)) ∗ scopedSems0 (V d (cV L) (jV L)) ∗ owes (V d (cV L) (jV L)) O W)
      ⊢ wp (M := MT nD τ sig (HIx 1) (Elt F) ℕ UU ℕ) frame (wpE (defs₀ (F := F)) 𝒱₀ (V d (cV L) (jV L)) none) Set.univ
          (cc0_body L xV (Memref.isWhole_whole _) tV (Memref.isWhole_whole _) oV (Memref.isWhole_whole _) sX (Memref.isWhole_whole _)
        sT (Memref.isWhole_whole _) sW (Memref.isWhole_whole _) sO (Memref.isWhole_whole _) cc0_scoped0 cc0_scoped1 cc0_scoped2)
          fun _ => iprop((xG d L q X ∗ tG d L qt T ∗ oG d L (outG X T)) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_body_eq_skeleton]; unfold cc0_body_skel
  dsimp only
  rw [(K (F := F)).scopedBufs_V hF d (cV L) (jV L), SparseCore.Cfg.scopedSems0_V (Val := Elt F) d (cV L) (jV L), ownSems0_tile, ownBufs_tile]
  iintro ⟨#Hlv, -, ⟨Hx, Ht, Ho⟩, ⟨⟨%f0, Hsx⟩, ⟨%f1, Hst⟩, ⟨%f2, Hsw⟩, ⟨%f3, Hso⟩, Hbufs⟩, ⟨HsT, HsF, HsO, Hsems⟩, HO⟩
  ihave #Hmw := ((K (F := F)).mayWaits_none (thr := V d (cV L) (jV L)) hO) $$ Hlv
  iapply (copy_step d L (src := tV) (dst := sT) (sem := cc0_scoped0.sem) (Sd := Finset.univ) (fs := T) (fd := f1) (q := qt) (O := O) (W := W) (by decide)
    (Finset.subset_univ _)) $$ [Ht Hst HsT HO]
  · isplitr; · iexact Hmw
    isplitl [Ht]; · iexact Ht
    isplitl [Hst]; · iexact Hst
    isplitl [HsT]; · iexact HsT
    iexact HO
  iintro ⟨Ht, Hst, HsT, HO⟩
  rw [show (sT : Memref sig .scVector .vmem S65536 .i32).view.write (Elt F) f1 ((tV : Memref sig .scVector .hbm S65536 .i32).view.read (Elt F) T) Finset.univ = T
    from View.write_whole_univ (Val := Elt F) cc0_scratch1 f1 T]
  iapply (Scf.wp_for_bind _ _ _ k0_t1_loop.lb k0_t1_loop.ub k0_t1_loop.st k0_t1_ok PUnit.unit _ (fun k _ => Inv d L q X T O W k)
    (fun k _ => block_trip d L hX _ k)) $$ [Hx Ho Hsx Hst Hsw Hso HsF HsO HO]
  · unfold Inv Rest
    isplitl [Hx Ho Hsx HsF HsO HO]
    · isplitr; · iexact Hmw
      isplitl [Hx]; · iexact Hx
      isplitl [Hsx]; · iexists f0; iexact Hsx
      isplitl [Ho]
      · iexists g₀; isplitr [Ho]
        · ipureintro; exact row0_zero_done L g₀
        · iexact Ho
      isplitl [HsF]; · iexact HsF
      isplitl [HsO]; · iexact HsO
      iexists (insert (SemLoc.dma cc0_scoped0.sem, (none : HIx 1)) W); isplitr
      · ipureintro; exact ins_ok (fun p hp => .inl hp) (SemLoc.dma cc0_scoped0.sem)
      · iexact HO
    isplitl [Hst]; · iexact Hst
    isplitl [Hsw]; · iexists f2; iexact Hsw
    iexists f3; iexact Hso
  iintro %_ HI
  ihave HI := (Entails.of_eq (show Inv d L q X T O W (Scf.trips k0_t1_loop.lb k0_t1_loop.ub k0_t1_loop.st) = (Inv d L q X T O W 25 : sProp 𝕄) from rfl)) $$ HI
  unfold Inv Rest
  icases HI with ⟨⟨-, Hx, Hsx, ⟨%g, %hg, Ho⟩, HsF, HsO, HO⟩, Hst, Hsw, Hso⟩
  ihave Ho := (Entails.of_eq (oG_done d L hg)) $$ Ho
  iapply (pure_step d _ _ Entails.rfl)
  isplitl [Hx Ht Ho]
  · isplitl [Hx]; · iexact Hx
    isplitl [Ht]; · iexact Ht
    iexact Ho
  isplitl [Hsx Hst Hsw Hso Hbufs]
  · isplitl [Hsx]; · iexact Hsx
    isplitl [Hst]; · iexists T; iexact Hst
    isplitl [Hsw]; · iexact Hsw
    isplitl [Hso]; · iexact Hso
    iexact Hbufs
  isplitl [HsT HsF HsO Hsems]
  · isplitl [HsT]; · iexact HsT
    isplitl [HsF]; · iexact HsF
    isplitl [HsO]; · iexact HsO
    iexact Hsems
  iexact HO

end Cert.Proof.Lookup
-- ==== Proof.Launch.lean ====
module

public import proofs.«01_k».proof.Defs
public import proofs.«01_k».proof.Proof.Tile
public import proofs.«01_k».proof.Proof.Gen.Pre_binary
public import Idealize.ShloMosaic.Lib.SparseCore.Quiescent
public import Idealize.ShloMosaic.Lib.StableHlo.Run

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's arrays at each step of the program -/

abbrev a0 : DevRef τ sig := Proc.devRef .tc (main_arg0 : Ref sig .tc)
abbrev a1 : DevRef τ sig := Proc.devRef .tc (main_arg1 : Ref sig .tc)
abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)

abbrev opX : HloOp τ sig (Elt F) := StableHlo.reshape main_arg0 main_v0 (rfl : (.i32 : EltTy) = .i32) shapeCasts_S100000x56_S5600000
abbrev opT : HloOp τ sig (Elt F) := StableHlo.reshape main_arg1 main_v1 (rfl : (.i32 : EltTy) = .i32) shapeCasts_S1024x4x16_S65536
abbrev opR : HloOp τ sig (Elt F) := StableHlo.reshape main_v2 main_v3 (rfl : (.f32 : EltTy) = .f32) shapeCasts_S12800000_S100000x128

/-- `x` as one row, and the packed table as one row. -/
def Xm (d : Dev nD) : S5600000.Idx → BitVec 32 :=
  fun i => shapeCast S5600000 (m ((SparseCore.T d).loc main_arg0) : S100000x56.Idx → BitVec 32) shapeCasts_S100000x56_S5600000 i
def Tm (d : Dev nD) : S65536.Idx → BitVec 32 :=
  fun i => shapeCast S65536 (m ((SparseCore.T d).loc main_arg1) : S1024x4x16.Idx → BitVec 32) shapeCasts_S1024x4x16_S65536 i
/-- The flat result, and the result as the program returns it. -/
def Om (d : Dev nD) : S12800000.Idx → F .f32 := outG (Xm m d) (Tm m d)
def Rm (d : Dev nD) : S100000x128.Idx → F .f32 := fun i => shapeCast S100000x128 (Om m d) shapeCasts_S12800000_S100000x128 i

def V0 (d : Dev nD) : Valuation τ sig (Elt F) := fun b => m (d, b)
def V1 (d : Dev nD) : Valuation τ sig (Elt F) := (opX (F := F)).result (V0 m d)
def V2 (d : Dev nD) : Valuation τ sig (Elt F) := (opT (F := F)).result (V1 m d)
def V3 (d : Dev nD) : Valuation τ sig (Elt F) := Function.update (V2 m d) b2 (Om m d)
def V4 (d : Dev nD) : Valuation τ sig (Elt F) := (opR (F := F)).result (V3 m d)

theorem V1_of_ne (d : Dev nD) {b : DevRef τ sig} (h : b ∉ ({b0} : Finset (DevRef τ sig))) : V1 m d b = V0 m d b :=
  (opX (F := F)).result_of_not_mem _ h
theorem V2_of_ne (d : Dev nD) {b : DevRef τ sig} (h : b ∉ ({b1} : Finset (DevRef τ sig))) : V2 m d b = V1 m d b :=
  (opT (F := F)).result_of_not_mem _ h
theorem V4_of_ne (d : Dev nD) {b : DevRef τ sig} (h : b ∉ ({b3} : Finset (DevRef τ sig))) : V4 m d b = V3 m d b :=
  (opR (F := F)).result_of_not_mem _ h

theorem V2_b0 (d : Dev nD) : V2 m d b0 = Xm m d :=
  (V2_of_ne m d (by decide)).trans (StableHlo.reshape_result (τ := τ) main_arg0 main_v0 rfl shapeCasts_S100000x56_S5600000 (by exact ⟨by decide, rfl⟩) (by exact ⟨by decide, rfl⟩) (V0 m d))
theorem V2_b1 (d : Dev nD) : V2 m d b1 = Tm m d := by
  refine (StableHlo.reshape_result (τ := τ) main_arg1 main_v1 rfl shapeCasts_S1024x4x16_S65536 (by exact ⟨by decide, rfl⟩) (by exact ⟨by decide, rfl⟩) (V1 m d)).trans ?_
  have e : V1 m d (Proc.devRef .tc (main_arg1 : Ref sig .tc)) = m ((SparseCore.T d).loc main_arg1) := V1_of_ne m d (b := a1) (by decide)
  rw [e]; rfl
theorem V2_b2 (d : Dev nD) : V2 m d b2 = m ((SparseCore.T d).loc main_v2) := (V2_of_ne m d (by decide)).trans (V1_of_ne m d (by decide))
theorem V3_b2 (d : Dev nD) : V3 m d b2 = Om m d := Function.update_self _ _ _
theorem V3_of_ne (d : Dev nD) {b : DevRef τ sig} (h : b ≠ b2) : V3 m d b = V2 m d b := Function.update_of_ne h _ _
theorem V4_b3 (d : Dev nD) : V4 m d b3 = Rm m d := by
  refine (StableHlo.reshape_result (τ := τ) main_v2 main_v3 rfl shapeCasts_S12800000_S100000x128 (by exact ⟨by decide, rfl⟩) (by exact ⟨by decide, rfl⟩) (V3 m d)).trans ?_
  have e : V3 m d (Proc.devRef .tc (main_v2 : Ref sig .tc)) = Om m d := V3_b2 m d
  rw [e]; rfl
theorem V4_a0 (d : Dev nD) : V4 m d a0 = m ((SparseCore.T d).loc main_arg0) :=
  (V4_of_ne m d (by decide)).trans ((V3_of_ne m d (by decide)).trans ((V2_of_ne m d (by decide)).trans (V1_of_ne m d (by decide))))
theorem V4_a1 (d : Dev nD) : V4 m d a1 = m ((SparseCore.T d).loc main_arg1) :=
  (V4_of_ne m d (by decide)).trans ((V3_of_ne m d (by decide)).trans ((V2_of_ne m d (by decide)).trans (V1_of_ne m d (by decide))))

/-- The six arrays the program holds. -/
abbrev S6 : Finset (DevRef τ sig) := {a0, a1, b0, b1, b2, b3}

omit [FloatOps F] in
theorem held_S6 (d : Dev nD) (W : Valuation τ sig (Elt F)) :
    (held (SparseCore.T d) S6 W : sProp 𝕄) = iprop(((SparseCore.T d).loc main_arg0 ↦{fullShare} W a0) ∗ ((SparseCore.T d).loc main_arg1 ↦{fullShare} W a1)
      ∗ ((SparseCore.T d).loc main_v0 ↦{fullShare} W b0) ∗ ((SparseCore.T d).loc main_v1 ↦{fullShare} W b1) ∗ ((SparseCore.T d).loc main_v2 ↦{fullShare} W b2)
      ∗ (SparseCore.T d).loc main_v3 ↦{fullShare} W b3) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d) S6 (V0 m d) := by
  rw [held_S6]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-! ## What each tile is given and gives back -/

def coordsV (c : Fin (grid0.bound 0)) (s : Fin (grid0.bound 1)) : grid0.Coords :=
  fun | 0 => c | 1 => s | ⟨_ + 2, h⟩ => absurd h (Nat.not_lt.2 (Nat.le_add_left _ _))

/-- The share of the two arrays all tiles read that tile `(c, i)` holds. -/
def shr (c : Fin 2) (i : Fin 16) : PosShare TreeShare :=
  Transfers.dealOf (Transfers.dealOf fullShare Finset.univ c) Finset.univ i

def tileIn (d : Dev nD) (c : Fin 2) (i : Fin 16) : sProp 𝕄 :=
  iprop(xG d (coordsV c i) (shr c i) (Xm m d) ∗ tG d (coordsV c i) (shr c i) (Tm m d) ∗ oG d (coordsV c i) (m ((SparseCore.T d).loc main_v2)))
def tileOut (d : Dev nD) (c : Fin 2) (i : Fin 16) : sProp 𝕄 :=
  iprop(xG d (coordsV c i) (shr c i) (Xm m d) ∗ tG d (coordsV c i) (shr c i) (Tm m d) ∗ oG d (coordsV c i) (Om m d))

instance tileIn_storable (d : Dev nD) (c : Fin 2) (i : Fin 16) : BI.Storable (upEmb : UEmb _ 𝕄) (tileIn m d c i) := by
  unfold tileIn; infer_instance
instance tileOut_storable (d : Dev nD) (c : Fin 2) (i : Fin 16) : BI.Storable (upEmb : UEmb _ 𝕄) (tileOut m d c i) := by
  unfold tileOut; infer_instance

def P : (K (F := F)).Pay (nD := nD) (Val := Elt F) (Name := ℕ) (U := UU) where
  st := fun q d c => match q with | 0 => bigSep (Finset.univ : Finset (Fin 16)) fun i => tileIn m d c i
  dn := fun q d c => match q with | 0 => bigSep (Finset.univ : Finset (Fin 16)) fun i => tileOut m d c i
  go := fun q d c i => match q with | 0 => tileIn m d c i
  td := fun q d c i => match q with | 0 => tileOut m d c i
  x := fun _ _ => iprop(emp)

instance P_storable : (P (F := F) m).IsStorable where
  st q d c := match q with
    | 0 => (inferInstance : BI.Storable (upEmb : UEmb _ 𝕄) (bigSep (Finset.univ : Finset (Fin 16)) fun i => tileIn m d c i))
  dn q d c := match q with
    | 0 => (inferInstance : BI.Storable (upEmb : UEmb _ 𝕄) (bigSep (Finset.univ : Finset (Fin 16)) fun i => tileOut m d c i))
  go q d c i := match q with | 0 => tileIn_storable m d c i
  td q d c i := match q with | 0 => tileOut_storable m d c i

/-! ## Dealing the arrays to the tiles -/

omit [FloatOps F] in
theorem deal_read {ℓ : Loc nD τ sig} (f : Buf (Elt F) ℓ) :
    (ℓ ↦{fullShare} f : sProp 𝕄) = bigSep (Finset.univ : Finset (Fin 2)) fun c => bigSep (Finset.univ : Finset (Fin 16)) fun i => ℓ ↦{shr c i} f := by
  rw [Transfers.pointsTo_deal (Finset.univ : Finset (Fin 2)) Finset.univ_nonempty fullShare]
  exact bigSep_congr fun c _ => Transfers.pointsTo_deal (Finset.univ : Finset (Fin 16)) Finset.univ_nonempty _

theorem mem_tileSet {c : Fin 2} {i : Fin 16} {j : S12800000.Idx} :
    j ∈ tileSet (coordsV c i) ↔ 128 * (6250 * i.val + 3125 * c.val) ≤ (j 0).val ∧ (j 0).val < 128 * (6250 * i.val + 3125 * c.val + 3125) := by
  unfold tileSet row0
  rw [Finset.mem_filter]
  show _ ∧ (128 * (6250 * i.val + 3125 * c.val + 125 * 0) ≤ (j 0).val ∧ (j 0).val < 128 * (6250 * i.val + 3125 * c.val + 125 * 25)) ↔ _
  simp

def coreSet (c : Fin 2) : Finset S12800000.Idx := (Finset.univ : Finset (Fin 16)).biUnion fun i => tileSet (coordsV c i)

theorem tiles_disjoint (c : Fin 2) : ∀ i ∈ (Finset.univ : Finset (Fin 16)), ∀ i' ∈ (Finset.univ : Finset (Fin 16)), i ≠ i' →
    Disjoint (tileSet (coordsV c i)) (tileSet (coordsV c i')) := by
  intro i _ i' _ h
  refine Finset.disjoint_left.mpr fun j h1 h2 => ?_
  rw [mem_tileSet] at h1 h2
  have := c.isLt
  exact h (Fin.ext (by omega))

theorem cores_disjoint : ∀ c ∈ (Finset.univ : Finset (Fin 2)), ∀ c' ∈ (Finset.univ : Finset (Fin 2)), c ≠ c' →
    Disjoint (coreSet c) (coreSet c') := by
  intro c _ c' _ h
  refine Finset.disjoint_left.mpr fun j h1 h2 => ?_
  obtain ⟨i, -, h1⟩ := Finset.mem_biUnion.mp h1
  obtain ⟨i', -, h2⟩ := Finset.mem_biUnion.mp h2
  rw [mem_tileSet] at h1 h2
  have := c.isLt; have := c'.isLt
  exact h (Fin.ext (by omega))

theorem cores_cover : (Finset.univ : Finset (Fin 2)).biUnion coreSet = Finset.univ := by
  refine Finset.eq_univ_iff_forall.mpr fun j => ?_
  have hj : (j 0).val < 12800000 := (j 0).isLt
  refine Finset.mem_biUnion.mpr ⟨⟨(j 0).val / 400000 % 2, by omega⟩, Finset.mem_univ _, ?_⟩
  refine Finset.mem_biUnion.mpr ⟨⟨(j 0).val / 800000, by omega⟩, Finset.mem_univ _, ?_⟩
  rw [mem_tileSet]
  dsimp only
  omega

omit [FloatOps F] in
theorem deal_out (d : Dev nD) (f : S12800000.Idx → F .f32) :
    ((SparseCore.T d).loc main_v2 ↦{fullShare} f : sProp 𝕄)
      = bigSep (Finset.univ : Finset (Fin 2)) fun c => bigSep (Finset.univ : Finset (Fin 16)) fun i => oG d (coordsV c i) f := by
  have h1 : ((SparseCore.T d).loc main_v2 ↦{fullShare} f : sProp 𝕄)
      = bigSep (Finset.univ : Finset (Fin 2)) fun c => (SparseCore.T d).loc main_v2 ↦[coreSet c]{fullShare} f := by
    rw [← pointsTo_biUnion Finset.univ (ℓ := (SparseCore.T d).loc main_v2) coreSet cores_disjoint, cores_cover]
  rw [h1]
  exact bigSep_congr fun c _ => pointsTo_biUnion Finset.univ (ℓ := (SparseCore.T d).loc main_v2) (fun i : Fin 16 => tileSet (coordsV c i)) (tiles_disjoint c)

theorem st0_eq (d : Dev nD) : (bigSep Finset.univ fun c : Fin ((K (F := F)).nCore 0) => (P m).st 0 d c)
    = iprop(((SparseCore.T d).loc main_v0 ↦{fullShare} (Xm m d)) ∗ ((SparseCore.T d).loc main_v1 ↦{fullShare} (Tm m d)) ∗ (SparseCore.T d).loc main_v2 ↦{fullShare} (m ((SparseCore.T d).loc main_v2))) := by
  rw [deal_read (ℓ := (SparseCore.T d).loc main_v0) (Xm m d), deal_read (ℓ := (SparseCore.T d).loc main_v1) (Tm m d), deal_out d (m ((SparseCore.T d).loc main_v2)),
    ← bigSep_sep', ← bigSep_sep']
  show (bigSep (Finset.univ : Finset (Fin 2)) fun c => bigSep (Finset.univ : Finset (Fin 16)) fun i => tileIn m d c i) = _
  refine bigSep_congr fun c _ => ?_
  rw [← bigSep_sep', ← bigSep_sep']
  rfl
theorem dn0_eq (d : Dev nD) : (bigSep Finset.univ fun c : Fin ((K (F := F)).nCore 0) => (P m).dn 0 d c)
    = iprop(((SparseCore.T d).loc main_v0 ↦{fullShare} (Xm m d)) ∗ ((SparseCore.T d).loc main_v1 ↦{fullShare} (Tm m d)) ∗ (SparseCore.T d).loc main_v2 ↦{fullShare} (Om m d)) := by
  rw [deal_read (ℓ := (SparseCore.T d).loc main_v0) (Xm m d), deal_read (ℓ := (SparseCore.T d).loc main_v1) (Tm m d), deal_out d (Om m d),
    ← bigSep_sep', ← bigSep_sep']
  show (bigSep (Finset.univ : Finset (Fin 2)) fun c => bigSep (Finset.univ : Finset (Fin 16)) fun i => tileOut m d c i) = _
  refine bigSep_congr fun c _ => ?_
  rw [← bigSep_sep', ← bigSep_sep']
  rfl

/-! ## The launch theorem's obligations -/

theorem defs₀_vector (c : Fin τ.nSC) (s : Fin τ.nSub) :
    defs₀ (F := F) (.scVector c s) 0 ()
      = SparseCore.onTile hcore0 hsub0 (fun c s => cc0_body (coordsV c s)
          xV (Memref.isWhole_whole _) tV (Memref.isWhole_whole _) oV (Memref.isWhole_whole _) sX (Memref.isWhole_whole _)
          sT (Memref.isWhole_whole _) sW (Memref.isWhole_whole _) sO (Memref.isWhole_whole _) cc0_scoped0 cc0_scoped1 cc0_scoped2) ⟨⟩ c s := rfl

omit [FloatOps F] in
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

def PreOK : Prop := ∀ d, Bits01 (Xm m d)

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (hpre d) hF (m ((SparseCore.T d).loc main_v2)) hO).trans (wp_mono frame _ _ fun _ => post_weaken)

theorem vecSplit : (K (F := F)).VecSplit' (P m) 0 := by
  intro d c
  show (bigSep (Finset.univ : Finset (Fin 16)) fun i => tileIn m d c i) ⊢ |={Set.univ}=> iprop(
      (bigSep (Finset.univ : Finset (Fin 16)) fun i => tileIn m d c i)
      ∗ ((bigSep (Finset.univ : Finset (Fin 16)) fun i => tileOut m d c i) -∗ (bigSep (Finset.univ : Finset (Fin 16)) fun i => tileOut m d c i)))
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  show _ ⊢ |={Set.univ}=> iprop(BI.own (EH (initOf (K (F := F)).hsCells (K (F := F)).hsToks)) ∗ (bigSep Finset.univ fun _ : Dev nD => iprop(emp))
        ∗ bigSep Finset.univ fun _ : Thread nD τ => bigSep Finset.univ fun _ : Fin 1 => iprop(emp))
  rw [bigSep_emp', bigSep_emp']
  unfold u₀
  iintro Hu
  ihave H := (ownU_pair _ _) $$ Hu
  icases H with ⟨HH, -⟩
  imodintro
  isplitl [HH]; · iexact HH
  isplitr <;> iempintro

/-! ## The program on the TensorCore -/

abbrev FIN (d : Dev nD) : sProp 𝕄 := iprop(((SparseCore.T d).loc main_arg0 ↦{fullShare} (m ((SparseCore.T d).loc main_arg0)))
  ∗ ((SparseCore.T d).loc main_arg1 ↦{fullShare} (m ((SparseCore.T d).loc main_arg1))) ∗ (SparseCore.T d).loc main_v3 ↦{fullShare} (Rm m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) (show ({a0, b0} : Finset (DevRef τ sig)) ⊆ S6 by decide) (V := V0 m d)) $$ [Hb Hheld]
  · isplitl [Hb] <;> iassumption
  iintro ⟨Hb, Hheld⟩
  ihave Hheld := (Entails.of_eq (show (held (SparseCore.T d) S6 ((opX (F := F)).result (V0 m d)) : sProp 𝕄) = held (SparseCore.T d) S6 (V1 m d) from rfl)) $$ Hheld
  rw [wp_ret]; imodintro
  iapply (wp_hlo_within 𝒱 (SparseCore.T d) none Set.univ (op := opT) (S := S6) (show ({a1, b1} : Finset (DevRef τ sig)) ⊆ S6 by decide) (V := V1 m d)) $$ [Hb Hheld]
  · isplitl [Hb] <;> iassumption
  iintro ⟨Hb, Hheld⟩
  ihave Hheld := (Entails.of_eq (show (held (SparseCore.T d) S6 ((opT (F := F)).result (V1 m d)) : sProp 𝕄) = held (SparseCore.T d) S6 (V2 m d) from rfl)) $$ Hheld
  rw [wp_ret]; imodintro
  ihave Hh := (Entails.of_eq (held_S6 (F := F) d (V2 m d))) $$ Hheld
  icases Hh with ⟨Ha0, Ha1, Hb0, Hb1, Hb2, Hb3⟩
  rw [V2_b0, V2_b1, V2_b2]
  iapply ((K (F := F)).wp_run (D (F := F)) 𝒱 (EH := EH) (P := P m) κ d 0) $$ [Hst Ha0 Ha1 Hb0 Hb1 Hb2 Hb3 Hb Hts]
  isplitr; · iexact Hctx
  isplitl [Hst]; · iexact Hst
  isplitl [Hb0 Hb1 Hb2]
  · rw [st0_eq]
    isplitl [Hb0]; · iexact Hb0
    isplitl [Hb1]; · iexact Hb1
    iexact Hb2
  iintro ⟨Hst, Hdn⟩
  ihave Hdn' := (Entails.of_eq (dn0_eq m d)) $$ Hdn
  icases Hdn' with ⟨Hb0, Hb1, Hb2⟩
  iapply (wp_hlo_within 𝒱 (SparseCore.T d) none Set.univ (op := opR) (S := S6) (show ({b2, b3} : Finset (DevRef τ sig)) ⊆ S6 by decide) (V := V3 m d)) $$ [Hb Ha0 Ha1 Hb0 Hb1 Hb2 Hb3]
  · isplitl [Hb]; · iexact Hb
    rw [held_S6, V3_b2, V3_of_ne m d (b := a0) (by decide), V3_of_ne m d (b := a1) (by decide), V3_of_ne m d (b := b0) (by decide),
      V3_of_ne m d (b := b1) (by decide), V3_of_ne m d (b := b3) (by decide), V2_b0, V2_b1]
    isplitl [Ha0]; · iexact Ha0
    isplitl [Ha1]; · iexact Ha1
    isplitl [Hb0]; · iexact Hb0
    isplitl [Hb1]; · iexact Hb1
    isplitl [Hb2]; · iexact Hb2
    iexact Hb3
  iintro ⟨Hb, Hheld⟩
  ihave Hheld := (Entails.of_eq (show (held (SparseCore.T d) S6 ((opR (F := F)).result (V3 m d)) : sProp 𝕄) = held (SparseCore.T d) S6 (V4 m d) from rfl)) $$ Hheld
  ihave Hh := (Entails.of_eq (held_S6 (F := F) d (V4 m d))) $$ Hheld
  icases Hh with ⟨Ha0, Ha1, -, -, -, Hb3⟩
  rw [V4_a0, V4_a1, V4_b3]
  rw [wp_ret]; imodintro; imodintro
  isplitl [Hst]; · iexact Hst
  isplitr [Hb Hts]
  · isplitl [Ha0]; · iexact Ha0
    isplitl [Ha1]; · iexact Ha1
    iexact Hb3
  isplitl [Hb] <;> iassumption

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v3) = Rm m d

theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h2, HSI, -⟩
  ihave H := (SI_pointsTo_agree (st := s') (ℓ := (SparseCore.T d).loc main_v3) (I := Finset.univ) (q := fullShare) (f := Rm m d)) $$ [HSI H2]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_v3) = Rm m d) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
module

public import proofs.«01_k».proof.Proof.Launch
public import proofs.«01_k».proof.Proof.Gen.ReferenceIdeal.Run
public import Idealize.ShloMosaic.Lib.Pointwise

@[expose] public section

noncomputable section

namespace Cert.Proof.Value

open Cert.ReferenceIdeal Cert.ReferenceIdeal.Gen
open Idealize.ShloMosaic

/-! ## The reference's value, in parts -/

/-- The eight tables of partial sums. -/
def tab (w : S1024x4x16.Idx → BitVec 32) : S8x128x128.Idx → EReal :=
  shapeCast S8x128x128 (concatenate S1024x4x2x16 2
    [⟨S1024x4x1x16, (broadcastInDim S1024x4x1x16 ![0, 1, 3] bcast_S1024x4x16_S1024x4x1x16_0_1_3
        (bitcastToFloat (F := Ideal) .f32 (Host.shli w (broadcastInDim S1024x4x16 ![] bcast_S_S1024x4x16 (constantI S_ 32 16#32)))))⟩,
     ⟨S1024x4x1x16, (broadcastInDim S1024x4x1x16 ![0, 1, 3] bcast_S1024x4x16_S1024x4x1x16_0_1_3
        (bitcastToFloat (F := Ideal) .f32 (andi w (broadcastInDim S1024x4x16 ![] bcast_S_S1024x4x16 (constantI S_ 32 4294901760#32)))))⟩]
    concatenates_S1024x4x1x16_S1024x4x1x16_S1024x4x2x16_d2) shapeCasts_S1024x4x2x16_S8x128x128

/-- The seven bits of a chunk as a number. -/
def code (x : S100000x56.Idx → BitVec 32) : S100000x8.Idx → BitVec 32 :=
  Host.reduce IntOp.addi (Host.shli (shapeCast S100000x8x7 x shapeCasts_S100000x56_S100000x8x7)
    (broadcastInDim S100000x8x7 ![0, 1, 2] bcast_S1x1x7_S100000x8x7_0_1_2 (broadcastInDim S1x1x7 ![2] bcast_S7_S1x1x7_2 (iotaInDim S7 32 0))))
    (constantI S_ 32 0#32) reducesTo_S100000x8x7_S100000x8_d2 h_S_

/-- The pair of indices each lookup is made at. -/
def idx (cd : S100000x8.Idx → BitVec 32) : S100000x8x2.Idx → BitVec 32 :=
  concatenate S100000x8x2 2
    [⟨S100000x8x1, (broadcastInDim S100000x8x1 ![0, 1] bcast_S100000x8_S100000x8x1_0_1 (broadcastInDim S100000x8 ![0, 1] bcast_S1x8_S100000x8_0_1
      (select (cmpi .slt (broadcastInDim S1x8 ![1] bcast_S8_S1x8_1 (iotaInDim S8 32 0)) (broadcastInDim S1x8 ![] bcast_S_S1x8 (constantI S_ 32 0#32)))
        (addi (broadcastInDim S1x8 ![1] bcast_S8_S1x8_1 (iotaInDim S8 32 0)) (broadcastInDim S1x8 ![] bcast_S_S1x8 (constantI S_ 32 8#32)))
        (broadcastInDim S1x8 ![1] bcast_S8_S1x8_1 (iotaInDim S8 32 0)))))⟩,
     ⟨S100000x8x1, (broadcastInDim S100000x8x1 ![0, 1] bcast_S100000x8_S100000x8x1_0_1
      (select (cmpi .slt cd (broadcastInDim S100000x8 ![] bcast_S_S100000x8 (constantI S_ 32 0#32)))
        (addi cd (broadcastInDim S100000x8 ![] bcast_S_S100000x8 (constantI S_ 32 128#32))) cd))⟩]
    concatenates_S100000x8x1_S100000x8x1_S100000x8x2_d2

/-- The reference's result. -/
def val (x : S100000x56.Idx → BitVec 32) (w : S1024x4x16.Idx → BitVec 32) : S100000x128.Idx → EReal :=
  Host.reduceAdd (F := Ideal) (φ := .f32) (Host.gather gather_S8x128x128_S100000x8x2_S100000x8x128_2_01_n_n_01_2_11128 (tab w) (idx (code x)))
    (constant S_ .f32 0x00000000#32) reducesTo_S100000x8x128_S100000x128_d1 h_S_

theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = val (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

open Cert.Proof.Lookup (ix rd half rowEl outEl codeG outN outG Bits01)

/-- An argument array laid flat. -/
abbrev flatX (x : S100000x56.Idx → BitVec 32) : (⟨1, ![5600000]⟩ : Shape).Idx → BitVec 32 :=
  fun i => shapeCast (⟨1, ![5600000]⟩ : Shape) x Cert.KernelIdeal.Gen.shapeCasts_S100000x56_S5600000 i
abbrev flatT (w : S1024x4x16.Idx → BitVec 32) : (⟨1, ![65536]⟩ : Shape).Idx → BitVec 32 :=
  fun i => shapeCast (⟨1, ![65536]⟩ : Shape) w Cert.KernelIdeal.Gen.shapeCasts_S1024x4x16_S65536 i

theorem ix_eq (n : ℕ) [NeZero n] (k : ℕ) (h : k < n) : ix n k = ix1 ⟨k, h⟩ := by
  funext a
  obtain rfl : a = 0 := Subsingleton.elim _ _
  exact Fin.ext (Nat.mod_eq_of_lt h)

theorem rd_flatX (x : S100000x56.Idx → BitVec 32) (r : Fin 100000) (n : ℕ) (hn : n < 56) :
    rd 5600000 (flatX x) (56 * r.val + n) = x (ix2 r ⟨n, hn⟩) := by
  have hr := r.isLt
  unfold rd
  rw [ix_eq _ _ (show 56 * r.val + n < 5600000 by omega)]
  show shapeCast _ x _ _ = _
  pointwise
  congr 2 <;> exact Fin.ext (by simp only []; omega)

theorem rd_flatT (w : S1024x4x16.Idx → BitVec 32) (n g l : ℕ) (hn : n < 1024) (hg : g < 4) (hl : l < 16) :
    rd 65536 (flatT w) (n * 64 + 16 * g + l) = w (ix3 ⟨n, hn⟩ ⟨g, hg⟩ ⟨l, hl⟩) := by
  unfold rd
  rw [ix_eq _ _ (show n * 64 + 16 * g + l < 65536 by omega)]
  show shapeCast _ w _ _ = _
  pointwise
  congr 2 <;> exact Fin.ext (by simp only []; omega)

theorem tab_apply (w : S1024x4x16.Idx → BitVec 32) (k : Fin 8) (b : Fin 128) (e : Fin 128) :
    tab w (ix3 k b e) = half (F := Ideal) (e.val / 16 % 2) (rd 65536 (flatT w) ((k.val * 128 + b.val) * 64 + 16 * (e.val / 16 / 2) + e.val % 16)) := by
  have hk := k.isLt
  have hb := b.isLt
  have he := e.isLt
  rw [rd_flatT w (k.val * 128 + b.val) (e.val / 16 / 2) (e.val % 16) (by omega) (by omega) (by omega)]
  unfold tab
  pointwise
  have h2 : e.val / 16 / 2 = e.val / 32 := by omega
  simp only [h2]
  split
  · rename_i h
    have h0 : e.val / 16 % 2 = 0 := by omega
    rw [half, if_pos h0]
    rfl
  · rename_i h
    have h0 : ¬e.val / 16 % 2 = 0 := by omega
    rw [half, if_neg h0]
    rfl

theorem host_shli (v : BitVec 32) (k : ℕ) (hk : k < 32) : IntOp.shli ArithUnit.host v (BitVec.ofNat 32 k) = v <<< BitVec.ofNat 32 k := by
  unfold IntOp.shli
  rw [if_pos (by rw [BitVec.toNat_ofNat]; omega)]

/-- A fold over the first `n + 1` numbers is the first term and the fold over the rest. -/
theorem fold_fin {α : Type} (op : α → α → α) [Std.Commutative op] [Std.Associative op] (z : α) {n : ℕ} (f : Fin (n + 1) → α) :
    Finset.univ.fold op z f = op (f 0) (Finset.univ.fold op z fun i : Fin n => f i.succ) := by
  rw [Fin.univ_succ, Finset.fold_cons, Finset.fold_map]
  rfl

theorem code_sum (x : S100000x56.Idx → BitVec 32) (r : Fin 100000) (k : Fin 8) :
    code x (ix2 r k) = x (ix2 r ⟨7 * k.val + 0, by omega⟩) + x (ix2 r ⟨7 * k.val + 1, by omega⟩) <<< (1#32)
      + x (ix2 r ⟨7 * k.val + 2, by omega⟩) <<< (2#32) + x (ix2 r ⟨7 * k.val + 3, by omega⟩) <<< (3#32)
      + x (ix2 r ⟨7 * k.val + 4, by omega⟩) <<< (4#32) + x (ix2 r ⟨7 * k.val + 5, by omega⟩) <<< (5#32)
      + x (ix2 r ⟨7 * k.val + 6, by omega⟩) <<< (6#32) := by
  have hk := k.isLt
  unfold code
  pointwise
  have key : ∀ g : Fin 7 → BitVec 32, Finset.fold IntOp.addi (0#32) g Finset.univ = g 0 + g 1 + g 2 + g 3 + g 4 + g 5 + g 6 := by
    intro g
    rw [fold_fin, fold_fin, fold_fin, fold_fin, fold_fin, fold_fin, fold_fin, Finset.univ_eq_empty, Finset.fold_empty]
    show g 0 + (g 1 + (g 2 + (g 3 + (g 4 + (g 5 + (g 6 + 0#32)))))) = _
    simp only [BitVec.add_assoc, BitVec.add_zero]
  rw [key]
  have h : ∀ (i : Fin 7) (hb : k.val * 7 + i.val < 56) (hb' : 7 * k.val + i.val < 56),
      IntOp.shli ArithUnit.host (x (ix2 r ⟨k.val * 7 + i.val, hb⟩)) (BitVec.ofNat 32 i.val) = x (ix2 r ⟨7 * k.val + i.val, hb'⟩) <<< (BitVec.ofNat 32 i.val) := by
    intro i hb hb'
    have hi := i.isLt
    rw [host_shli _ _ (by omega)]
    congr 3
    exact Fin.ext (by simp only []; omega)
  rw [h 0 _ (by omega), h 1 _ (by omega), h 2 _ (by omega), h 3 _ (by omega), h 4 _ (by omega), h 5 _ (by omega), h 6 _ (by omega)]
  congr 6
  exact BitVec.shiftLeft_zero _

theorem code_apply (x : S100000x56.Idx → BitVec 32) (r : Fin 100000) (k : Fin 8) :
    code x (ix2 r k) + BitVec.ofNat 32 (128 * k.val) = codeG (flatX x) r.val k.val := by
  have hk := k.isLt
  rw [code_sum]
  unfold codeG
  rw [rd_flatX x r (7 * k.val + 0) (by omega), rd_flatX x r (7 * k.val + 1) (by omega), rd_flatX x r (7 * k.val + 2) (by omega),
    rd_flatX x r (7 * k.val + 3) (by omega), rd_flatX x r (7 * k.val + 4) (by omega), rd_flatX x r (7 * k.val + 5) (by omega),
    rd_flatX x r (7 * k.val + 6) (by omega)]

theorem code_lt (x : S100000x56.Idx → BitVec 32) (hx : ∀ j, (x j).toNat < 2) (r : Fin 100000) (k : Fin 8) :
    (code x (ix2 r k)).toNat < 128 := by
  have hk := k.isLt
  rw [code_sum]
  have h0 := hx (ix2 r ⟨7 * k.val + 0, by omega⟩)
  have h1 := hx (ix2 r ⟨7 * k.val + 1, by omega⟩)
  have h2 := hx (ix2 r ⟨7 * k.val + 2, by omega⟩)
  have h3 := hx (ix2 r ⟨7 * k.val + 3, by omega⟩)
  have h4 := hx (ix2 r ⟨7 * k.val + 4, by omega⟩)
  have h5 := hx (ix2 r ⟨7 * k.val + 5, by omega⟩)
  have h6 := hx (ix2 r ⟨7 * k.val + 6, by omega⟩)
  generalize x (ix2 r ⟨7 * k.val + 0, _⟩) = v0 at h0 ⊢
  generalize x (ix2 r ⟨7 * k.val + 1, _⟩) = v1 at h1 ⊢
  generalize x (ix2 r ⟨7 * k.val + 2, _⟩) = v2 at h2 ⊢
  generalize x (ix2 r ⟨7 * k.val + 3, _⟩) = v3 at h3 ⊢
  generalize x (ix2 r ⟨7 * k.val + 4, _⟩) = v4 at h4 ⊢
  generalize x (ix2 r ⟨7 * k.val + 5, _⟩) = v5 at h5 ⊢
  generalize x (ix2 r ⟨7 * k.val + 6, _⟩) = v6 at h6 ⊢
  simp only [BitVec.toNat_add, BitVec.shiftLeft_eq', BitVec.toNat_shiftLeft, BitVec.toNat_ofNat, Nat.shiftLeft_eq, Nat.reduceMod, Nat.reducePow]
  omega

theorem idx_apply0 (cd : S100000x8.Idx → BitVec 32) (r : Fin 100000) (k : Fin 8) :
    idx cd (ix3 r k 0) = BitVec.ofNat 32 k.val := by
  unfold idx
  pointwise
  clear cd
  revert k
  decide

theorem idx_apply1 (cd : S100000x8.Idx → BitVec 32) (r : Fin 100000) (k : Fin 8) (h : (cd (ix2 r k)).toNat < 128) :
    idx cd (ix3 r k 1) = cd (ix2 r k) := by
  unfold idx
  pointwise
  generalize cd (ix2 r k) = v at h ⊢
  have hc : IntOp.cmpi .slt v 0#32 = 0#1 := by
    simp only [IntOp.cmpi]
    rw [show v.slt 0#32 = false from ?_]
    · rfl
    · rw [BitVec.slt_eq_decide, decide_eq_false_iff_not, BitVec.toInt_eq_toNat_cond]
      simp only [BitVec.toInt_zero]
      omega
  rw [hc]
  rfl

theorem toInt_toNat (v : BitVec 32) (h : v.toNat < 128) : v.toInt.toNat = v.toNat := by
  rw [BitVec.toInt_eq_toNat_cond]
  split <;> omega

/-- The dimension numbers of the reference's lookup. -/
abbrev gd : GatherDims S8x128x128 S100000x8x2 S100000x8x128 := gather_S8x128x128_S100000x8x2_S100000x8x128_2_01_n_n_01_2_11128

theorem gather_apply (y : S8x128x128.Idx → EReal) (i : S100000x8x2.Idx → BitVec 32) (r : Fin 100000) (k : Fin 8) (e : Fin 128)
    (a : Fin 8) (b : Fin 128) (ha : (i (ix3 r k 0)).toInt.toNat = a.val) (hb : (i (ix3 r k 1)).toInt.toNat = b.val) :
    Host.gather gd y i (ix3 r k e) = y (ix3 a b e) := by
  have ha' := a.isLt
  have hb' := b.isLt
  have s0 : gd.siIdx (ix3 r k e) ⟨List.idxOf (0 : Fin 3) gd.startIndexMap, List.idxOf_lt_length_iff.2 (by decide)⟩ = ix3 r k 0 := by
    funext p; refine Fin.ext ?_
    match p with
    | ⟨0, _⟩ => rfl
    | ⟨1, _⟩ => rfl
    | ⟨2, _⟩ => rfl
  have s1 : gd.siIdx (ix3 r k e) ⟨List.idxOf (1 : Fin 3) gd.startIndexMap, List.idxOf_lt_length_iff.2 (by decide)⟩ = ix3 r k 1 := by
    funext p; refine Fin.ext ?_
    match p with
    | ⟨0, _⟩ => rfl
    | ⟨1, _⟩ => rfl
    | ⟨2, _⟩ => rfl
  have t0 : gd.start (ix3 r k e) i (0 : Fin 3) = a.val := by
    unfold GatherDims.start
    rw [dif_pos (show (0 : Fin 3) ∈ gd.startIndexMap by decide), s0, ha]
    show min a.val 7 = a.val
    omega
  have t1 : gd.start (ix3 r k e) i (1 : Fin 3) = b.val := by
    unfold GatherDims.start
    rw [dif_pos (show (1 : Fin 3) ∈ gd.startIndexMap by decide), s1, hb]
    show min b.val 127 = b.val
    omega
  have t2 : gd.start (ix3 r k e) i (2 : Fin 3) = 0 := by
    unfold GatherDims.start
    rw [dif_neg (show ¬(2 : Fin 3) ∈ gd.startIndexMap by decide)]
  have o0 : gd.offCoord (ix3 r k e) (0 : Fin 3) = 0 :=
    GatherDims.offCoord_eq_zero _ _ _ (fun h => ((GatherDims.mem_sKept _ _).mp h).1 (by decide))
  have o1 : gd.offCoord (ix3 r k e) (1 : Fin 3) = 0 :=
    GatherDims.offCoord_eq_zero _ _ _ (fun h => ((GatherDims.mem_sKept _ _).mp h).1 (by decide))
  have o2 : gd.offCoord (ix3 r k e) (2 : Fin 3) = e.val := rfl
  unfold Host.gather
  congr 1
  funext q
  refine Fin.ext ?_
  show gd.start (ix3 r k e) i q + gd.batchCoord (ix3 r k e) q + gd.offCoord (ix3 r k e) q = _
  rw [GatherDims.batchCoord_eq_zero _ _ _ List.not_mem_nil, Nat.add_zero]
  match q with
  | ⟨0, _⟩ => exact (congrArg₂ (· + ·) t0 o0).trans (Nat.add_zero _)
  | ⟨1, _⟩ => exact (congrArg₂ (· + ·) t1 o1).trans (Nat.add_zero _)
  | ⟨2, _⟩ => exact (congrArg₂ (· + ·) t2 o2).trans (Nat.zero_add _)

/-- One lookup of the reference is the table word the kernel adds. -/
theorem term_eq (x : S100000x56.Idx → BitVec 32) (w : S1024x4x16.Idx → BitVec 32) (hx : ∀ j, (x j).toNat < 2)
    (r : Fin 100000) (k : Fin 8) (e : Fin 128) :
    Host.gather gd (tab w) (idx (code x)) (ix3 r k e)
      = half (F := Ideal) (e.val / 16 % 2) (rd 65536 (flatT w) ((codeG (flatX x) r.val k.val).toNat * 64 + 16 * (e.val / 16 / 2) + e.val % 16)) := by
  have hk := k.isLt
  have hc := code_lt x hx r k
  rw [gather_apply (tab w) (idx (code x)) r k e k ⟨(code x (ix2 r k)).toNat, hc⟩
    (by rw [idx_apply0, toInt_toNat _ (by rw [BitVec.toNat_ofNat]; omega), BitVec.toNat_ofNat]; omega)
    (by rw [idx_apply1 _ _ _ hc, toInt_toNat _ hc]), tab_apply]
  have hn : (codeG (flatX x) r.val k.val).toNat = k.val * 128 + (code x (ix2 r k)).toNat := by
    rw [← code_apply x r k, BitVec.toNat_add, BitVec.toNat_ofNat]
    omega
  rw [hn]

theorem val_apply (x : S100000x56.Idx → BitVec 32) (w : S1024x4x16.Idx → BitVec 32) (hx : ∀ j, (x j).toNat < 2)
    (r : Fin 100000) (e : Fin 128) : val x w (ix2 r e) = outN (F := Ideal) (flatX x) (flatT w) (128 * r.val + e.val) := by
  have he := e.isLt
  unfold val
  pointwise
  have h1 : (128 * r.val + e.val) / 128 = r.val := by omega
  have h2 : (128 * r.val + e.val) % 128 / 16 = e.val / 16 := by omega
  have h3 : (128 * r.val + e.val) % 16 = e.val % 16 := by omega
  unfold outN outEl rowEl
  rw [h1, h2, h3, Fin.sum_univ_eight]
  simp only [term_eq x w hx, Ideal.addf_def]
  rfl

/-- The reference's value is the kernel's. -/
theorem val_eq (x : S100000x56.Idx → BitVec 32) (w : S1024x4x16.Idx → BitVec 32) (hx : ∀ j, (x j).toNat < 2) :
    val x w = fun i => shapeCast S100000x128 (outG (F := Ideal) (flatX x) (flatT w)) Cert.KernelIdeal.Gen.shapeCasts_S12800000_S100000x128 i := by
  funext i
  obtain ⟨r, e, rfl⟩ : ∃ (r : Fin 100000) (e : Fin 128), i = ix2 r e := ⟨i 0, i 1, by
    funext a
    match a with
    | ⟨0, _⟩ => rfl
    | ⟨1, _⟩ => rfl⟩
  rw [val_apply x w hx]
  pointwise
  show _ = outN _ _ (r.val * 128 + e.val)
  rw [Nat.mul_comm]

end Cert.Proof.Value

end
-- ==== Proof.TableValue.lean ====
module

public import proofs.«01_k».proof.Proof.Gen.TableIdeal.Value
public import proofs.«01_k».proof.Proof.Gen.TableReferenceIdeal.Run
public import Idealize.ShloMosaic.Lib.Pointwise

@[expose] public section

noncomputable section

namespace Cert.Proof.TableValue

open Idealize.ShloMosaic

section Kernel

open Cert.TableIdeal Cert.TableIdeal.Gen

/-- The sum of the picked rows: row `r` of the table, lane `e`, adds for each bit of `r % 128` the row of `a` that the bit picks. -/
def rowSum (a : S56x2x128.Idx → EReal) (r : Fin 1024) (e : Fin 128) : EReal :=
  ∑ j : Fin 7, a (ix3 ⟨7 * (r.val / 128) + j.val, by omega⟩ ⟨r.val % 128 / 2 ^ j.val % 2, by omega⟩ e)

/-! ## The kernel's masks -/

theorem pay2_apply (r : Fin 1024) (i : Fin 56) : k0_pay2 (ix2 r i) = BitVec.ofNat 32 (r.val % 128) := by
  unfold k0_pay2
  pointwise
  clear i
  revert r
  decide +kernel

/-- The number of a row's chunk, as the kernel divides. -/
theorem chunk_eq (r : Fin 1024) :
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 r.val) 128#32) 0#32))
      (IntOp.subi (IntOp.divsi ArithUnit.vector (BitVec.ofNat 32 r.val) 128#32) 1#32)
      (IntOp.divsi ArithUnit.vector (BitVec.ofNat 32 r.val) 128#32) = BitVec.ofNat 32 (r.val / 128) := by
  revert r
  decide +kernel

theorem pay3_apply (r : Fin 1024) (i : Fin 56) :
    k0_pay3 (ix2 r i) = IntOp.subi (BitVec.ofNat 32 i.val) (IntOp.muli (BitVec.ofNat 32 (r.val / 128)) 7#32) := by
  unfold k0_pay3
  pointwise
  rw [chunk_eq]

/-- Whether column `i` is in chunk `c`. -/
theorem inch_eq (c : Fin 8) (i : Fin 56) :
    IntOp.andi (IntOp.cmpi CmpIPredicate.sge (IntOp.subi (BitVec.ofNat 32 i.val) (IntOp.muli (BitVec.ofNat 32 c.val) 7#32)) 0#32)
      (IntOp.cmpi CmpIPredicate.slt (IntOp.subi (BitVec.ofNat 32 i.val) (IntOp.muli (BitVec.ofNat 32 c.val) 7#32)) 7#32)
      = if i.val / 7 = c.val then 1#1 else 0#1 := by
  revert c i
  decide +kernel

theorem place_eq (i : Fin 56) :
    IntOp.subi (BitVec.ofNat 32 i.val) (IntOp.muli (BitVec.ofNat 32 (i.val / 7)) 7#32) = BitVec.ofNat 32 (i.val % 7) := by
  revert i
  decide +kernel

/-- Bit `j` of a code, as the kernel shifts it out. -/
theorem bit_eq (b : Fin 128) (j : Fin 7) :
    IntOp.andi (IntOp.shrsi ArithUnit.vector (BitVec.ofNat 32 b.val) (IntOp.minsi (6#32) (IntOp.maxsi (0#32) (BitVec.ofNat 32 j.val)))) 1#32
      = BitVec.ofNat 32 (b.val / 2 ^ j.val % 2) := by
  revert b j
  decide +kernel

/-- A mask of the kernel, as a number: column `i` is in row `r`'s chunk, and the code's bit there is `v`. -/
theorem mask_eq (v : Fin 2) (r : Fin 1024) (i : Fin 56) :
    FloatOps.sitofp (F := Ideal) FTy.f32
      (BitVec.setWidth 32
        (IntOp.andi
          (IntOp.andi (IntOp.cmpi CmpIPredicate.sge (k0_pay3 (ix2 r i)) 0#32) (IntOp.cmpi CmpIPredicate.slt (k0_pay3 (ix2 r i)) 7#32))
          (IntOp.cmpi CmpIPredicate.eq
            (IntOp.andi (IntOp.shrsi ArithUnit.vector (k0_pay2 (ix2 r i)) (IntOp.minsi (6#32) (IntOp.maxsi (0#32) (k0_pay3 (ix2 r i))))) 1#32)
            (BitVec.ofNat 32 v.val))))
      = if i.val / 7 = r.val / 128 ∧ r.val % 128 / 2 ^ (i.val % 7) % 2 = v.val then (1 : EReal) else 0 := by
  have hr := r.isLt
  have hone : FloatOps.sitofp (F := Ideal) FTy.f32 (1#32) = (1 : EReal) := by
    show (((1#32 : BitVec 32).toInt : ℝ) : EReal) = 1
    norm_num
  have hzero : FloatOps.sitofp (F := Ideal) FTy.f32 (0#32) = (0 : EReal) := by
    show (((0#32 : BitVec 32).toInt : ℝ) : EReal) = 0
    norm_num
  rw [pay3_apply, pay2_apply, inch_eq ⟨r.val / 128, by omega⟩ i]
  by_cases h : i.val / 7 = r.val / 128
  · rw [if_pos h, ← h, place_eq, bit_eq ⟨r.val % 128, by omega⟩ ⟨i.val % 7, by omega⟩]
    have hb : r.val % 128 / 2 ^ (i.val % 7) % 2 < 2 := Nat.mod_lt _ (by omega)
    simp only [true_and]
    generalize r.val % 128 / 2 ^ (i.val % 7) % 2 = n at hb ⊢
    have key : ∀ n v : Fin 2, BitVec.setWidth 32 (IntOp.andi 1#1 (IntOp.cmpi CmpIPredicate.eq (BitVec.ofNat 32 n.val) (BitVec.ofNat 32 v.val)))
        = if n.val = v.val then 1#32 else 0#32 := by decide
    rw [key ⟨n, hb⟩ v]
    by_cases hv : n = v.val
    · rw [if_pos hv, if_pos hv, hone]
    · rw [if_neg hv, if_neg hv, hzero]
  · rw [if_neg h, if_neg (fun hh => h hh.1)]
    have key : ∀ u : BitVec 1, BitVec.setWidth 32 (IntOp.andi 0#1 u) = 0#32 := by decide
    rw [key, hzero]

/-- A sum over the columns of which only those of chunk `c` count. -/
theorem sum_chunk (c : ℕ) (hc : c < 8) (g : Fin 56 → EReal) (h : ∀ i : Fin 56, i.val / 7 ≠ c → g i = 0) :
    ∑ i, g i = ∑ j : Fin 7, g ⟨7 * c + j.val, by omega⟩ := by
  symm
  refine Finset.sum_of_injOn (fun j : Fin 7 => (⟨7 * c + j.val, by omega⟩ : Fin 56)) ?_ (fun _ _ => Finset.mem_coe.2 (Finset.mem_univ _)) ?_ (fun _ _ => rfl)
  · intro a _ b _ hab
    have := congrArg Fin.val hab
    simp only [] at this
    exact Fin.ext (by omega)
  · intro i _ hi
    refine h i fun hic => hi ⟨⟨i.val % 7, by omega⟩, Finset.mem_coe.2 (Finset.mem_univ _), Fin.ext ?_⟩
    simp only []
    omega

/-- What the kernel stores, entry by entry. -/
theorem kernel_apply (a : S56x2x128.Idx → EReal) (r : Fin 1024) (e : Fin 128) :
    k0_pay1 (F := Ideal) k0_pay2 k0_pay3 0#32 a (ix2 r e) = rowSum a r e := by
  have hr := r.isLt
  unfold k0_pay1
  pointwise
  have h1 := fun i : Fin 56 => mask_eq 1 r i
  have h0 := fun i : Fin 56 => mask_eq 0 r i
  simp only [Fin.val_one, Fin.val_zero] at h1 h0
  simp only [h1, h0]
  rw [← Finset.sum_add_distrib, sum_chunk (r.val / 128) (by omega)]
  · unfold rowSum
    refine Finset.sum_congr rfl fun j _ => ?_
    have hj := j.isLt
    have e1 : (7 * (r.val / 128) + j.val) / 7 = r.val / 128 := by omega
    have e2 : (7 * (r.val / 128) + j.val) % 7 = j.val := by omega
    simp only [e1, e2, true_and]
    have hb : r.val % 128 / 2 ^ j.val % 2 < 2 := Nat.mod_lt _ (by omega)
    rcases Nat.mod_two_eq_zero_or_one (r.val % 128 / 2 ^ j.val) with h | h
    · have hx : (⟨r.val % 128 / 2 ^ j.val % 2, hb⟩ : Fin 2) = 0 := Fin.ext h
      rw [if_neg (by omega), if_pos h, hx, zero_mul, one_mul, zero_add]
    · have hx : (⟨r.val % 128 / 2 ^ j.val % 2, hb⟩ : Fin 2) = 1 := Fin.ext h
      rw [if_pos h, if_neg (by omega), hx, zero_mul, one_mul, add_zero]
  · intro i hi
    rw [if_neg (fun h => hi h.1), if_neg (fun h => hi h.1), zero_mul, zero_mul, add_zero]

end Kernel

/-! ## The reference's value -/

section Reference

open Cert.TableReferenceIdeal Cert.TableReferenceIdeal.Gen

/-- Bit `j` of code `b`. -/
def bits : S128x7.Idx → BitVec 32 :=
  andi (Host.shrsi (broadcastInDim S128x7 ![0, 1] bcast_S128x1_S128x7_0_1 (broadcastInDim S128x1 ![0] bcast_S128_S128x1_0 (iotaInDim S128 32 0)))
      (broadcastInDim S128x7 ![0, 1] bcast_S1x7_S128x7_0_1 (broadcastInDim S1x7 ![1] bcast_S7_S1x7_1 (iotaInDim S7 32 0))))
    (broadcastInDim S128x7 ![] bcast_S_S128x7 (constantI S_ 32 1#32))

/-- The pair of indices, column and bit, of each lookup of the reference. -/
def picks (bt : S128x7.Idx → BitVec 32) : S128x7x2.Idx → BitVec 32 :=
  concatenate S128x7x2 2
    [⟨S128x7x1, (broadcastInDim S128x7x1 ![0, 1] bcast_S128x7_S128x7x1_0_1 (broadcastInDim S128x7 ![0, 1] bcast_S1x7_S128x7_0_1
      (select (cmpi .slt (broadcastInDim S1x7 ![1] bcast_S7_S1x7_1 (iotaInDim S7 32 0)) (broadcastInDim S1x7 ![] bcast_S_S1x7 (constantI S_ 32 0#32)))
        (addi (broadcastInDim S1x7 ![1] bcast_S7_S1x7_1 (iotaInDim S7 32 0)) (broadcastInDim S1x7 ![] bcast_S_S1x7 (constantI S_ 32 7#32)))
        (broadcastInDim S1x7 ![1] bcast_S7_S1x7_1 (iotaInDim S7 32 0)))))⟩,
     ⟨S128x7x1, (broadcastInDim S128x7x1 ![0, 1] bcast_S128x7_S128x7x1_0_1
      (select (cmpi .slt bt (broadcastInDim S128x7 ![] bcast_S_S128x7 (constantI S_ 32 0#32)))
        (addi bt (broadcastInDim S128x7 ![] bcast_S_S128x7 (constantI S_ 32 2#32))) bt))⟩]
    concatenates_S128x7x1_S128x7x1_S128x7x2_d2

/-- The dimension numbers of the reference's lookup. -/
abbrev gd : GatherDims S8x7x2x128 S128x7x2 S8x128x7x128 := gather_S8x7x2x128_S128x7x2_S8x128x7x128_03_12_n_n_12_2_811128

/-- The reference's result. -/
def val (a : S56x2x128.Idx → EReal) : S1024x128.Idx → EReal :=
  shapeCast S1024x128 (Host.reduceAdd (F := Ideal) (φ := .f32) (Host.gather gd (shapeCast S8x7x2x128 a shapeCasts_S56x2x128_S8x7x2x128) (picks bits))
    (constant S_ .f32 0x00000000#32) reducesTo_S8x128x7x128_S8x128x128_d2 h_S_) shapeCasts_S8x128x128_S1024x128

theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = val (m ((c.tc : Thread nD τ).loc main_arg0))
      ∧ r.2.mem ((c.tc : Thread nD τ).loc main_arg0) = m ((c.tc : Thread nD τ).loc main_arg0) :=
  Cert.TableReferenceIdeal.Value.run (F := Ideal) m ρ

theorem bits_apply (b : Fin 128) (j : Fin 7) : bits (ix2 b j) = BitVec.ofNat 32 (b.val / 2 ^ j.val % 2) := by
  unfold bits
  pointwise
  revert b j
  decide +kernel

theorem picks_apply0 (bt : S128x7.Idx → BitVec 32) (b : Fin 128) (j : Fin 7) : picks bt (ix3 b j 0) = BitVec.ofNat 32 j.val := by
  unfold picks
  pointwise
  clear bt b
  revert j
  decide

theorem picks_apply1 (b : Fin 128) (j : Fin 7) : picks bits (ix3 b j 1) = BitVec.ofNat 32 (b.val / 2 ^ j.val % 2) := by
  unfold picks
  pointwise
  rw [bits_apply]
  have hb : b.val / 2 ^ j.val % 2 < 2 := Nat.mod_lt _ (by omega)
  generalize b.val / 2 ^ j.val % 2 = n at hb ⊢
  have key : ∀ n : Fin 2, Scalar.select (IntOp.cmpi CmpIPredicate.slt (BitVec.ofNat 32 n.val) 0#32) (IntOp.addi (BitVec.ofNat 32 n.val) 2#32)
      (BitVec.ofNat 32 n.val) = BitVec.ofNat 32 n.val := by decide
  exact key ⟨n, hb⟩

theorem small_toInt (n : ℕ) (h : n < 7) : (BitVec.ofNat 32 n).toInt.toNat = n := by
  have key : ∀ n : Fin 7, (BitVec.ofNat 32 n.val).toInt.toNat = n.val := by decide
  exact key ⟨n, h⟩

theorem gather_apply (y : S8x7x2x128.Idx → EReal) (i : S128x7x2.Idx → BitVec 32) (c : Fin 8) (b : Fin 128) (j : Fin 7) (e : Fin 128)
    (p : Fin 7) (q : Fin 2) (hp : (i (ix3 b j 0)).toInt.toNat = p.val) (hq : (i (ix3 b j 1)).toInt.toNat = q.val) :
    Host.gather gd y i (ix4 c b j e) = y (ix4 c p q e) := by
  have hp' := p.isLt
  have hq' := q.isLt
  have s1 : gd.siIdx (ix4 c b j e) ⟨List.idxOf (1 : Fin 4) gd.startIndexMap, List.idxOf_lt_length_iff.2 (by decide)⟩ = ix3 b j 0 := by
    funext z; refine Fin.ext ?_
    match z with
    | ⟨0, _⟩ => rfl
    | ⟨1, _⟩ => rfl
    | ⟨2, _⟩ => rfl
  have s2 : gd.siIdx (ix4 c b j e) ⟨List.idxOf (2 : Fin 4) gd.startIndexMap, List.idxOf_lt_length_iff.2 (by decide)⟩ = ix3 b j 1 := by
    funext z; refine Fin.ext ?_
    match z with
    | ⟨0, _⟩ => rfl
    | ⟨1, _⟩ => rfl
    | ⟨2, _⟩ => rfl
  have t0 : gd.start (ix4 c b j e) i (0 : Fin 4) = 0 := dif_neg (by decide)
  have t1 : gd.start (ix4 c b j e) i (1 : Fin 4) = p.val := by
    unfold GatherDims.start
    rw [dif_pos (show (1 : Fin 4) ∈ gd.startIndexMap by decide), s1, hp]
    show min p.val 6 = p.val
    omega
  have t2 : gd.start (ix4 c b j e) i (2 : Fin 4) = q.val := by
    unfold GatherDims.start
    rw [dif_pos (show (2 : Fin 4) ∈ gd.startIndexMap by decide), s2, hq]
    show min q.val 1 = q.val
    omega
  have t3 : gd.start (ix4 c b j e) i (3 : Fin 4) = 0 := dif_neg (by decide)
  have o1 : gd.offCoord (ix4 c b j e) (1 : Fin 4) = 0 := dif_neg (fun h => ((GatherDims.mem_sKept _ _).mp h).1 (by decide))
  have o2 : gd.offCoord (ix4 c b j e) (2 : Fin 4) = 0 := dif_neg (fun h => ((GatherDims.mem_sKept _ _).mp h).1 (by decide))
  have o0 : gd.offCoord (ix4 c b j e) (0 : Fin 4) = c.val := rfl
  have o3 : gd.offCoord (ix4 c b j e) (3 : Fin 4) = e.val := rfl
  unfold Host.gather
  congr 1
  funext z
  refine Fin.ext ?_
  show gd.start (ix4 c b j e) i z + gd.batchCoord (ix4 c b j e) z + gd.offCoord (ix4 c b j e) z = _
  rw [GatherDims.batchCoord_eq_zero _ _ _ List.not_mem_nil, Nat.add_zero]
  match z with
  | ⟨0, _⟩ => exact (congrArg₂ (· + ·) t0 o0).trans (Nat.zero_add _)
  | ⟨1, _⟩ => exact (congrArg₂ (· + ·) t1 o1).trans (Nat.add_zero _)
  | ⟨2, _⟩ => exact (congrArg₂ (· + ·) t2 o2).trans (Nat.add_zero _)
  | ⟨3, _⟩ => exact (congrArg₂ (· + ·) t3 o3).trans (Nat.zero_add _)

/-- The reference's entry is the sum of the rows that the bits pick. -/
theorem val_apply (a : S56x2x128.Idx → EReal) (r : Fin 1024) (e : Fin 128) : val a (ix2 r e) = rowSum a r e := by
  have hr := r.isLt
  unfold val
  pointwise
  unfold rowSum
  refine Finset.sum_congr rfl fun j _ => ?_
  have hj := j.isLt
  have hb : r.val % 128 / 2 ^ j.val % 2 < 2 := Nat.mod_lt _ (by omega)
  rw [gather_apply _ _ _ _ j e j ⟨r.val % 128 / 2 ^ j.val % 2, hb⟩
    (by rw [picks_apply0, small_toInt _ hj]) (by rw [picks_apply1, small_toInt _ (by omega)])]
  pointwise
  congr 2
  exact Fin.ext (by simp only []; omega)

end Reference

/-- The kernel's array is the reference's. -/
theorem val_eq (a : Cert.TableIdeal.S56x2x128.Idx → EReal) : val a = Cert.TableIdeal.Value.G1 (F := Ideal) a := by
  funext i
  obtain ⟨r, e, rfl⟩ : ∃ (r : Fin 1024) (e : Fin 128), i = ix2 r e := ⟨i 0, i 1, by
    funext q
    match q with
    | ⟨0, _⟩ => rfl
    | ⟨1, _⟩ => rfl⟩
  exact (val_apply a r e).trans (kernel_apply a r e).symm

end Cert.Proof.TableValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_binary
public import proofs.«01_k».proof.Proof.Gen.ReferenceIdeal.Run
public import proofs.«01_k».proof.Proof.Gen.Table
public import proofs.«01_k».proof.Proof.Gen.TableIdeal
public import proofs.«01_k».proof.Proof.Gen.TableReferenceIdeal
public import proofs.«01_k».proof.Proof.Gen.TableIdeal.Value
public import proofs.«01_k».proof.Proof.Gen.TableReferenceIdeal.Run
public import proofs.«01_k».proof.Proof.Gen.Table.Frame
public import proofs.«01_k».proof.Proof.Launch
public import proofs.«01_k».proof.Proof.Value
public import proofs.«01_k».proof.Proof.TableValue
public import Idealize.ShloMosaic.Lib.ReduceAll

@[expose] public section

noncomputable section

namespace Cert.Proof

open Idealize.ShloMosaic Idealize.SL.Sem
open Cert.Proof.Lookup (run_main PreOK Xm Tm Om Rm)

/-! ## What the precondition says of the first argument -/

theorem and_ofBool (p q : Bool) : IntOp.andi (BitVec.ofBool p) (BitVec.ofBool q) = BitVec.ofBool (p && q) := by
  cases p <;> cases q <;> rfl

theorem ofBool_one (p : Bool) : BitVec.ofBool p = 1#1 ↔ p = true := by
  cases p <;> decide

theorem bit_of_range {v : BitVec 32} (e : IntOp.andi (IntOp.cmpi .sge v 0#32) (IntOp.cmpi .slt v 2#32) = 1#1) : v.toNat < 2 := by
  simp only [IntOp.cmpi, and_ofBool, ofBool_one, Bool.and_eq_true, BitVec.sle_eq_decide, BitVec.slt_eq_decide, decide_eq_true_eq,
    BitVec.toInt_eq_toNat_cond, BitVec.toNat_ofNat, Nat.reducePow, Nat.reduceMod] at e
  omega

theorem bits_of_pre {F : FTy → Type} [FloatOps F] (x : Cert.Pre_binary.S100000x56.Idx → BitVec 32) (w : Cert.Pre_binary.S1024x4x16.Idx → BitVec 32)
    (h : Cert.Pre_binary.fn (F := F) x w = fun _ => 1#1) (j : Cert.Pre_binary.S100000x56.Idx) : (x j).toNat < 2 := by
  have e := congrFun h (fun a => a.elim0)
  haveI : Subsingleton Cert.Pre_binary.S_.Idx := ⟨fun a b => funext fun i => i.elim0⟩
  exact bit_of_range (Host.reduce_andi_all _ _ _ _ _ e j)

theorem ok_of_pre {F : FTy → Type} [FloatOps F] (m : (ℓ : Loc Cert.KernelIdeal.nD Cert.KernelIdeal.τ Cert.KernelIdeal.sig) → Buf (Elt F) ℓ)
    (h : ∀ d, Cert.Pre_binary.fn (F := F) (m ((SparseCore.T d).loc Cert.KernelIdeal.main_arg0)) (m ((SparseCore.T d).loc Cert.KernelIdeal.main_arg1)) = fun _ => 1#1) :
    PreOK m := by
  intro d j
  exact bits_of_pre _ _ (h d) _

/-! ## The frames -/

theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ (ok_of_pre (F := Bits) m hpre))

theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (ok_of_pre (F := Ideal) m hpre))

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => ⟨(h c).2.1, (h c).2.2⟩, sem_eq_zero_of_no_sems (by decide) r.2⟩)
    (Cert.Proof.Value.run_val m ρ)

/-! ## The value -/

theorem value : Cert.algebraic_KernelIdeal_ReferenceIdeal := by
  intro m g m' g' hpre hm
  refine ⟨fun c => Rm (F := Ideal) m c, ?_, ?_⟩
  · exact (θ_run Cert.KernelIdeal.defs _ _).mono (fun _ h c => ⟨(h.1 c).2.2, (h.1 c).1, (h.1 c).2.1⟩)
      (run_main (F := Ideal) m g (ok_of_pre (F := Ideal) m hpre))
  · refine (θ_run Cert.ReferenceIdeal.defs _ _).mono (fun r h c => ⟨(h c).1.trans ?_, (h c).2⟩) (Cert.Proof.Value.run_val m' g')
    rw [(hm c).1, (hm c).2]
    exact Cert.Proof.Value.val_eq _ _ (bits_of_pre _ _ (hpre c))

/-! ## The table call -/

theorem frame_table : Cert.quiescent_Table := fun m ρ _ => Cert.Table.Gen.frame m ρ

theorem frame_tableIdeal : Cert.quiescent_TableIdeal := fun m ρ _ => Cert.TableIdeal.Gen.frame m ρ

theorem frame_tableReference : Cert.quiescent_TableReferenceIdeal := fun m ρ _ =>
  (θ_run Cert.TableReferenceIdeal.defs _ _).mono (fun r h => ⟨fun c => (h c).2, sem_eq_zero_of_no_sems (by decide) r.2⟩)
    (Cert.Proof.TableValue.run_val m ρ)

theorem value_table : Cert.algebraic_TableIdeal_TableReferenceIdeal := by
  intro m g m' g' _ hm
  refine ⟨fun c => Cert.TableIdeal.Value.G1 (F := Ideal) (m ((c.tc : Thread Cert.TableIdeal.nD Cert.TableIdeal.τ).loc Cert.TableIdeal.main_arg0)), ?_, ?_⟩
  · exact Cert.TableIdeal.Value.run (F := Ideal) m g
  · refine (θ_run Cert.TableReferenceIdeal.defs _ _).mono (fun r h c => ⟨(h c).1.trans ?_, (h c).2⟩) (Cert.Proof.TableValue.run_val m' g')
    rw [hm c]
    exact Cert.Proof.TableValue.val_eq _

theorem claim : Cert.Claim := ⟨Cert.Kernel.Gen.facts, Cert.KernelIdeal.Gen.facts, Cert.ReferenceIdeal.Gen.facts,
  Cert.Table.Gen.facts, Cert.TableIdeal.Gen.facts, Cert.TableReferenceIdeal.Gen.facts, Cert.Pre_binary.Gen.facts,
  frame_kernel, frame_kernelIdeal, fun m ρ _ => frame_reference m ρ, fun m ρ _ => frame_reference m ρ,
  frame_table, frame_tableIdeal, frame_tableReference, trivial, value, trivial, value_table⟩

end Cert.Proof

end
